-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4x2x262144 : Shape := ⟨4, ![16, 4, 2, 262144]⟩
abbrev S16x4x2x32768 : Shape := ⟨4, ![16, 4, 2, 32768]⟩
abbrev S8x2x4096 : Shape := ⟨3, ![8, 2, 4096]⟩
abbrev S8x2x512 : Shape := ⟨3, ![8, 2, 512]⟩
abbrev S8 : Shape := ⟨1, ![8]⟩
abbrev S16 : Shape := ⟨1, ![16]⟩
abbrev S1x2x4096 : Shape := ⟨3, ![1, 2, 4096]⟩
abbrev S2x4096 : Shape := ⟨2, ![2, 4096]⟩
abbrev S1x1x2x4096 : Shape := ⟨4, ![1, 1, 2, 4096]⟩
abbrev S1 : Shape := ⟨1, ![1]⟩
abbrev S_ : Shape := ⟨0, ![]⟩
abbrev S1x2x512 : Shape := ⟨3, ![1, 2, 512]⟩
abbrev S2x512 : Shape := ⟨2, ![2, 512]⟩
abbrev S1x1x2x512 : Shape := ⟨4, ![1, 1, 2, 512]⟩
abbrev S1x1x16 : Shape := ⟨3, ![1, 1, 16]⟩

abbrev nBuf : Table → Nat
  | .hbm => 2
  | .local .scVector .vmem => 2
  | _ => 0

abbrev bufTy : (tb : Table) → Fin (nBuf tb) → BufTy
  | .hbm, ⟨0, _⟩ => ⟨S16x4x2x262144, .f32⟩
  | .hbm, ⟨1, _⟩ => ⟨S16x4x2x32768, .f32⟩
  | .local .scVector .vmem, ⟨0, _⟩ => ⟨S8x2x4096, .f32⟩
  | .local .scVector .vmem, ⟨1, _⟩ => ⟨S8x2x512, .f32⟩
  | _, _ => ⟨S16x4x2x262144, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let v6 : BitVec 32 := Scalar.addi v2 c0_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c0_i32_16 : BitVec 32 := 0#32
  let c0_i32_17 : BitVec 32 := 0#32
  ![v23.toNat, v33.toNat, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_22 : BitVec 32 := 0#32
  let v44 : BitVec 32 := Scalar.addi v2 c0_i32_22
  let c0_i32_24 : BitVec 32 := 0#32
  let v46 : BitVec 1 := Scalar.cmpi .sgt v44 c0_i32_24
  let v47 : BitVec 32 := Scalar.extui v46
  let c0_i32_25 : BitVec 32 := 0#32
  let v48 : BitVec 1 := Scalar.cmpi .slt v44 c0_i32_25
  let v49 : BitVec 32 := Scalar.extui v48
  let v50 : BitVec 32 := Scalar.subi v47 v49
  let c4_i32_23 : BitVec 32 := 4#32
  let c0_i32_26 : BitVec 32 := 0#32
  let v51 : BitVec 1 := Scalar.cmpi .sgt c4_i32_23 c0_i32_26
  let v52 : BitVec 32 := Scalar.extui v51
  let c0_i32_27 : BitVec 32 := 0#32
  let v53 : BitVec 1 := Scalar.cmpi .slt c4_i32_23 c0_i32_27
  let v54 : BitVec 32 := Scalar.extui v53
  let v55 : BitVec 32 := Scalar.subi v52 v54
  let v56 : BitVec 1 := Scalar.cmpi .ne v50 v55
  let v57 : BitVec 32 := Scalar.remsi v44 c4_i32_23
  let c0_i32_28 : BitVec 32 := 0#32
  let v58 : BitVec 1 := Scalar.cmpi .ne v57 c0_i32_28
  let v59 : BitVec 1 := Scalar.andi v56 v58
  let v45 : BitVec 32 := Scalar.divsi v44 c4_i32_23
  let c1_i32_29 : BitVec 32 := 1#32
  let v60 : BitVec 32 := Scalar.subi v45 c1_i32_29
  let v61 : BitVec 32 := Scalar.select v59 v60 v45
  let c4_i32_30 : BitVec 32 := 4#32
  let c0_i32_31 : BitVec 32 := 0#32
  let v62 : BitVec 1 := Scalar.cmpi .eq c4_i32_30 c0_i32_31
  let c1_i32_32 : BitVec 32 := 1#32
  let v63 : BitVec 32 := Scalar.select v62 c1_i32_32 c4_i32_30
  let v64 : BitVec 32 := Scalar.remsi v44 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let c0_i32_40 : BitVec 32 := 0#32
  let c4096_i32 : BitVec 32 := 4096#32
  ![v61.toNat, v71.toNat, 0, 4096]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_45 : BitVec 32 := 0#32
  let v82 : BitVec 32 := Scalar.addi v2 c0_i32_45
  let c0_i32_47 : BitVec 32 := 0#32
  let v84 : BitVec 1 := Scalar.cmpi .sgt v82 c0_i32_47
  let v85 : BitVec 32 := Scalar.extui v84
  let c0_i32_48 : BitVec 32 := 0#32
  let v86 : BitVec 1 := Scalar.cmpi .slt v82 c0_i32_48
  let v87 : BitVec 32 := Scalar.extui v86
  let v88 : BitVec 32 := Scalar.subi v85 v87
  let c4_i32_46 : BitVec 32 := 4#32
  let c0_i32_49 : BitVec 32 := 0#32
  let v89 : BitVec 1 := Scalar.cmpi .sgt c4_i32_46 c0_i32_49
  let v90 : BitVec 32 := Scalar.extui v89
  let c0_i32_50 : BitVec 32 := 0#32
  let v91 : BitVec 1 := Scalar.cmpi .slt c4_i32_46 c0_i32_50
  let v92 : BitVec 32 := Scalar.extui v91
  let v93 : BitVec 32 := Scalar.subi v90 v92
  let v94 : BitVec 1 := Scalar.cmpi .ne v88 v93
  let v95 : BitVec 32 := Scalar.remsi v82 c4_i32_46
  let c0_i32_51 : BitVec 32 := 0#32
  let v96 : BitVec 1 := Scalar.cmpi .ne v95 c0_i32_51
  let v97 : BitVec 1 := Scalar.andi v94 v96
  let v83 : BitVec 32 := Scalar.divsi v82 c4_i32_46
  let c1_i32_52 : BitVec 32 := 1#32
  let v98 : BitVec 32 := Scalar.subi v83 c1_i32_52
  let v99 : BitVec 32 := Scalar.select v97 v98 v83
  let c4_i32_53 : BitVec 32 := 4#32
  let c0_i32_54 : BitVec 32 := 0#32
  let v100 : BitVec 1 := Scalar.cmpi .eq c4_i32_53 c0_i32_54
  let c1_i32_55 : BitVec 32 := 1#32
  let v101 : BitVec 32 := Scalar.select v100 c1_i32_55 c4_i32_53
  let v102 : BitVec 32 := Scalar.remsi v82 v101
  let c0_i32_57 : BitVec 32 := 0#32
  let v104 : BitVec 1 := Scalar.cmpi .slt v102 c0_i32_57
  let c0_i32_58 : BitVec 32 := 0#32
  let v105 : BitVec 1 := Scalar.cmpi .slt v101 c0_i32_58
  let v106 : BitVec 1 := Scalar.xori v104 v105
  let c0_i32_56 : BitVec 32 := 0#32
  let v103 : BitVec 1 := Scalar.cmpi .ne v102 c0_i32_56
  let v107 : BitVec 1 := Scalar.andi v106 v103
  let v108 : BitVec 32 := Scalar.addi v102 v101
  let v109 : BitVec 32 := Scalar.select v107 v108 v102
  let c0_i32_63 : BitVec 32 := 0#32
  let c8192_i32 : BitVec 32 := 8192#32
  ![v99.toNat, v109.toNat, 0, 8192]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_68 : BitVec 32 := 0#32
  let v120 : BitVec 32 := Scalar.addi v2 c0_i32_68
  let c0_i32_70 : BitVec 32 := 0#32
  let v122 : BitVec 1 := Scalar.cmpi .sgt v120 c0_i32_70
  let v123 : BitVec 32 := Scalar.extui v122
  let c0_i32_71 : BitVec 32 := 0#32
  let v124 : BitVec 1 := Scalar.cmpi .slt v120 c0_i32_71
  let v125 : BitVec 32 := Scalar.extui v124
  let v126 : BitVec 32 := Scalar.subi v123 v125
  let c4_i32_69 : BitVec 32 := 4#32
  let c0_i32_72 : BitVec 32 := 0#32
  let v127 : BitVec 1 := Scalar.cmpi .sgt c4_i32_69 c0_i32_72
  let v128 : BitVec 32 := Scalar.extui v127
  let c0_i32_73 : BitVec 32 := 0#32
  let v129 : BitVec 1 := Scalar.cmpi .slt c4_i32_69 c0_i32_73
  let v130 : BitVec 32 := Scalar.extui v129
  let v131 : BitVec 32 := Scalar.subi v128 v130
  let v132 : BitVec 1 := Scalar.cmpi .ne v126 v131
  let v133 : BitVec 32 := Scalar.remsi v120 c4_i32_69
  let c0_i32_74 : BitVec 32 := 0#32
  let v134 : BitVec 1 := Scalar.cmpi .ne v133 c0_i32_74
  let v135 : BitVec 1 := Scalar.andi v132 v134
  let v121 : BitVec 32 := Scalar.divsi v120 c4_i32_69
  let c1_i32_75 : BitVec 32 := 1#32
  let v136 : BitVec 32 := Scalar.subi v121 c1_i32_75
  let v137 : BitVec 32 := Scalar.select v135 v136 v121
  let c4_i32_76 : BitVec 32 := 4#32
  let c0_i32_77 : BitVec 32 := 0#32
  let v138 : BitVec 1 := Scalar.cmpi .eq c4_i32_76 c0_i32_77
  let c1_i32_78 : BitVec 32 := 1#32
  let v139 : BitVec 32 := Scalar.select v138 c1_i32_78 c4_i32_76
  let v140 : BitVec 32 := Scalar.remsi v120 v139
  let c0_i32_80 : BitVec 32 := 0#32
  let v142 : BitVec 1 := Scalar.cmpi .slt v140 c0_i32_80
  let c0_i32_81 : BitVec 32 := 0#32
  let v143 : BitVec 1 := Scalar.cmpi .slt v139 c0_i32_81
  let v144 : BitVec 1 := Scalar.xori v142 v143
  let c0_i32_79 : BitVec 32 := 0#32
  let v141 : BitVec 1 := Scalar.cmpi .ne v140 c0_i32_79
  let v145 : BitVec 1 := Scalar.andi v144 v141
  let v146 : BitVec 32 := Scalar.addi v140 v139
  let v147 : BitVec 32 := Scalar.select v145 v146 v140
  let c0_i32_85 : BitVec 32 := 0#32
  let c12288_i32 : BitVec 32 := 12288#32
  ![v137.toNat, v147.toNat, 0, 12288]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_90 : BitVec 32 := 0#32
  let v158 : BitVec 32 := Scalar.addi v2 c0_i32_90
  let c0_i32_92 : BitVec 32 := 0#32
  let v160 : BitVec 1 := Scalar.cmpi .sgt v158 c0_i32_92
  let v161 : BitVec 32 := Scalar.extui v160
  let c0_i32_93 : BitVec 32 := 0#32
  let v162 : BitVec 1 := Scalar.cmpi .slt v158 c0_i32_93
  let v163 : BitVec 32 := Scalar.extui v162
  let v164 : BitVec 32 := Scalar.subi v161 v163
  let c4_i32_91 : BitVec 32 := 4#32
  let c0_i32_94 : BitVec 32 := 0#32
  let v165 : BitVec 1 := Scalar.cmpi .sgt c4_i32_91 c0_i32_94
  let v166 : BitVec 32 := Scalar.extui v165
  let c0_i32_95 : BitVec 32 := 0#32
  let v167 : BitVec 1 := Scalar.cmpi .slt c4_i32_91 c0_i32_95
  let v168 : BitVec 32 := Scalar.extui v167
  let v169 : BitVec 32 := Scalar.subi v166 v168
  let v170 : BitVec 1 := Scalar.cmpi .ne v164 v169
  let v171 : BitVec 32 := Scalar.remsi v158 c4_i32_91
  let c0_i32_96 : BitVec 32 := 0#32
  let v172 : BitVec 1 := Scalar.cmpi .ne v171 c0_i32_96
  let v173 : BitVec 1 := Scalar.andi v170 v172
  let v159 : BitVec 32 := Scalar.divsi v158 c4_i32_91
  let c1_i32_97 : BitVec 32 := 1#32
  let v174 : BitVec 32 := Scalar.subi v159 c1_i32_97
  let v175 : BitVec 32 := Scalar.select v173 v174 v159
  let c4_i32_98 : BitVec 32 := 4#32
  let c0_i32_99 : BitVec 32 := 0#32
  let v176 : BitVec 1 := Scalar.cmpi .eq c4_i32_98 c0_i32_99
  let c1_i32_100 : BitVec 32 := 1#32
  let v177 : BitVec 32 := Scalar.select v176 c1_i32_100 c4_i32_98
  let v178 : BitVec 32 := Scalar.remsi v158 v177
  let c0_i32_102 : BitVec 32 := 0#32
  let v180 : BitVec 1 := Scalar.cmpi .slt v178 c0_i32_102
  let c0_i32_103 : BitVec 32 := 0#32
  let v181 : BitVec 1 := Scalar.cmpi .slt v177 c0_i32_103
  let v182 : BitVec 1 := Scalar.xori v180 v181
  let c0_i32_101 : BitVec 32 := 0#32
  let v179 : BitVec 1 := Scalar.cmpi .ne v178 c0_i32_101
  let v183 : BitVec 1 := Scalar.andi v182 v179
  let v184 : BitVec 32 := Scalar.addi v178 v177
  let v185 : BitVec 32 := Scalar.select v183 v184 v178
  let c0_i32_108 : BitVec 32 := 0#32
  let c16384_i32 : BitVec 32 := 16384#32
  ![v175.toNat, v185.toNat, 0, 16384]
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_113 : BitVec 32 := 0#32
  let v196 : BitVec 32 := Scalar.addi v2 c0_i32_113
  let c0_i32_115 : BitVec 32 := 0#32
  let v198 : BitVec 1 := Scalar.cmpi .sgt v196 c0_i32_115
  let v199 : BitVec 32 := Scalar.extui v198
  let c0_i32_116 : BitVec 32 := 0#32
  let v200 : BitVec 1 := Scalar.cmpi .slt v196 c0_i32_116
  let v201 : BitVec 32 := Scalar.extui v200
  let v202 : BitVec 32 := Scalar.subi v199 v201
  let c4_i32_114 : BitVec 32 := 4#32
  let c0_i32_117 : BitVec 32 := 0#32
  let v203 : BitVec 1 := Scalar.cmpi .sgt c4_i32_114 c0_i32_117
  let v204 : BitVec 32 := Scalar.extui v203
  let c0_i32_118 : BitVec 32 := 0#32
  let v205 : BitVec 1 := Scalar.cmpi .slt c4_i32_114 c0_i32_118
  let v206 : BitVec 32 := Scalar.extui v205
  let v207 : BitVec 32 := Scalar.subi v204 v206
  let v208 : BitVec 1 := Scalar.cmpi .ne v202 v207
  let v209 : BitVec 32 := Scalar.remsi v196 c4_i32_114
  let c0_i32_119 : BitVec 32 := 0#32
  let v210 : BitVec 1 := Scalar.cmpi .ne v209 c0_i32_119
  let v211 : BitVec 1 := Scalar.andi v208 v210
  let v197 : BitVec 32 := Scalar.divsi v196 c4_i32_114
  let c1_i32_120 : BitVec 32 := 1#32
  let v212 : BitVec 32 := Scalar.subi v197 c1_i32_120
  let v213 : BitVec 32 := Scalar.select v211 v212 v197
  let c4_i32_121 : BitVec 32 := 4#32
  let c0_i32_122 : BitVec 32 := 0#32
  let v214 : BitVec 1 := Scalar.cmpi .eq c4_i32_121 c0_i32_122
  let c1_i32_123 : BitVec 32 := 1#32
  let v215 : BitVec 32 := Scalar.select v214 c1_i32_123 c4_i32_121
  let v216 : BitVec 32 := Scalar.remsi v196 v215
  let c0_i32_125 : BitVec 32 := 0#32
  let v218 : BitVec 1 := Scalar.cmpi .slt v216 c0_i32_125
  let c0_i32_126 : BitVec 32 := 0#32
  let v219 : BitVec 1 := Scalar.cmpi .slt v215 c0_i32_126
  let v220 : BitVec 1 := Scalar.xori v218 v219
  let c0_i32_124 : BitVec 32 := 0#32
  let v217 : BitVec 1 := Scalar.cmpi .ne v216 c0_i32_124
  let v221 : BitVec 1 := Scalar.andi v220 v217
  let v222 : BitVec 32 := Scalar.addi v216 v215
  let v223 : BitVec 32 := Scalar.select v221 v222 v216
  let c0_i32_130 : BitVec 32 := 0#32
  let c20480_i32 : BitVec 32 := 20480#32
  ![v213.toNat, v223.toNat, 0, 20480]
def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_135 : BitVec 32 := 0#32
  let v234 : BitVec 32 := Scalar.addi v2 c0_i32_135
  let c0_i32_137 : BitVec 32 := 0#32
  let v236 : BitVec 1 := Scalar.cmpi .sgt v234 c0_i32_137
  let v237 : BitVec 32 := Scalar.extui v236
  let c0_i32_138 : BitVec 32 := 0#32
  let v238 : BitVec 1 := Scalar.cmpi .slt v234 c0_i32_138
  let v239 : BitVec 32 := Scalar.extui v238
  let v240 : BitVec 32 := Scalar.subi v237 v239
  let c4_i32_136 : BitVec 32 := 4#32
  let c0_i32_139 : BitVec 32 := 0#32
  let v241 : BitVec 1 := Scalar.cmpi .sgt c4_i32_136 c0_i32_139
  let v242 : BitVec 32 := Scalar.extui v241
  let c0_i32_140 : BitVec 32 := 0#32
  let v243 : BitVec 1 := Scalar.cmpi .slt c4_i32_136 c0_i32_140
  let v244 : BitVec 32 := Scalar.extui v243
  let v245 : BitVec 32 := Scalar.subi v242 v244
  let v246 : BitVec 1 := Scalar.cmpi .ne v240 v245
  let v247 : BitVec 32 := Scalar.remsi v234 c4_i32_136
  let c0_i32_141 : BitVec 32 := 0#32
  let v248 : BitVec 1 := Scalar.cmpi .ne v247 c0_i32_141
  let v249 : BitVec 1 := Scalar.andi v246 v248
  let v235 : BitVec 32 := Scalar.divsi v234 c4_i32_136
  let c1_i32_142 : BitVec 32 := 1#32
  let v250 : BitVec 32 := Scalar.subi v235 c1_i32_142
  let v251 : BitVec 32 := Scalar.select v249 v250 v235
  let c4_i32_143 : BitVec 32 := 4#32
  let c0_i32_144 : BitVec 32 := 0#32
  let v252 : BitVec 1 := Scalar.cmpi .eq c4_i32_143 c0_i32_144
  let c1_i32_145 : BitVec 32 := 1#32
  let v253 : BitVec 32 := Scalar.select v252 c1_i32_145 c4_i32_143
  let v254 : BitVec 32 := Scalar.remsi v234 v253
  let c0_i32_147 : BitVec 32 := 0#32
  let v256 : BitVec 1 := Scalar.cmpi .slt v254 c0_i32_147
  let c0_i32_148 : BitVec 32 := 0#32
  let v257 : BitVec 1 := Scalar.cmpi .slt v253 c0_i32_148
  let v258 : BitVec 1 := Scalar.xori v256 v257
  let c0_i32_146 : BitVec 32 := 0#32
  let v255 : BitVec 1 := Scalar.cmpi .ne v254 c0_i32_146
  let v259 : BitVec 1 := Scalar.andi v258 v255
  let v260 : BitVec 32 := Scalar.addi v254 v253
  let v261 : BitVec 32 := Scalar.select v259 v260 v254
  let c0_i32_152 : BitVec 32 := 0#32
  let c24576_i32 : BitVec 32 := 24576#32
  ![v251.toNat, v261.toNat, 0, 24576]
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_157 : BitVec 32 := 0#32
  let v272 : BitVec 32 := Scalar.addi v2 c0_i32_157
  let c0_i32_159 : BitVec 32 := 0#32
  let v274 : BitVec 1 := Scalar.cmpi .sgt v272 c0_i32_159
  let v275 : BitVec 32 := Scalar.extui v274
  let c0_i32_160 : BitVec 32 := 0#32
  let v276 : BitVec 1 := Scalar.cmpi .slt v272 c0_i32_160
  let v277 : BitVec 32 := Scalar.extui v276
  let v278 : BitVec 32 := Scalar.subi v275 v277
  let c4_i32_158 : BitVec 32 := 4#32
  let c0_i32_161 : BitVec 32 := 0#32
  let v279 : BitVec 1 := Scalar.cmpi .sgt c4_i32_158 c0_i32_161
  let v280 : BitVec 32 := Scalar.extui v279
  let c0_i32_162 : BitVec 32 := 0#32
  let v281 : BitVec 1 := Scalar.cmpi .slt c4_i32_158 c0_i32_162
  let v282 : BitVec 32 := Scalar.extui v281
  let v283 : BitVec 32 := Scalar.subi v280 v282
  let v284 : BitVec 1 := Scalar.cmpi .ne v278 v283
  let v285 : BitVec 32 := Scalar.remsi v272 c4_i32_158
  let c0_i32_163 : BitVec 32 := 0#32
  let v286 : BitVec 1 := Scalar.cmpi .ne v285 c0_i32_163
  let v287 : BitVec 1 := Scalar.andi v284 v286
  let v273 : BitVec 32 := Scalar.divsi v272 c4_i32_158
  let c1_i32_164 : BitVec 32 := 1#32
  let v288 : BitVec 32 := Scalar.subi v273 c1_i32_164
  let v289 : BitVec 32 := Scalar.select v287 v288 v273
  let c4_i32_165 : BitVec 32 := 4#32
  let c0_i32_166 : BitVec 32 := 0#32
  let v290 : BitVec 1 := Scalar.cmpi .eq c4_i32_165 c0_i32_166
  let c1_i32_167 : BitVec 32 := 1#32
  let v291 : BitVec 32 := Scalar.select v290 c1_i32_167 c4_i32_165
  let v292 : BitVec 32 := Scalar.remsi v272 v291
  let c0_i32_169 : BitVec 32 := 0#32
  let v294 : BitVec 1 := Scalar.cmpi .slt v292 c0_i32_169
  let c0_i32_170 : BitVec 32 := 0#32
  let v295 : BitVec 1 := Scalar.cmpi .slt v291 c0_i32_170
  let v296 : BitVec 1 := Scalar.xori v294 v295
  let c0_i32_168 : BitVec 32 := 0#32
  let v293 : BitVec 1 := Scalar.cmpi .ne v292 c0_i32_168
  let v297 : BitVec 1 := Scalar.andi v296 v293
  let v298 : BitVec 32 := Scalar.addi v292 v291
  let v299 : BitVec 32 := Scalar.select v297 v298 v292
  let c0_i32_174 : BitVec 32 := 0#32
  let c28672_i32 : BitVec 32 := 28672#32
  ![v289.toNat, v299.toNat, 0, 28672]
@[reducible] def k0_t1_loop : Scf.Loop 32 :=
  let c0_i32_179 : BitVec 32 := 0#32
  let c16_i32 : BitVec 32 := 16#32
  let v310 : BitVec 32 := Scalar.addi c0_i32_179 c16_i32
  let c1_i32_180 : BitVec 32 := 1#32
  ⟨c0_i32_179, v310, c1_i32_180⟩
def k0_cond1 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_370 : BitVec 32 := 0#32
  let v618 : BitVec 1 := Scalar.cmpi .sgt v616 c0_i32_370
  let v619 : BitVec 32 := Scalar.extui v618
  let c0_i32_371 : BitVec 32 := 0#32
  let v620 : BitVec 1 := Scalar.cmpi .ne v619 c0_i32_371
  v620

def k0_off9 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_369 : BitVec 32 := 0#32
  let v617 : BitVec 32 := Scalar.addi v616 c0_i32_369
  let c8_i32_1053 : BitVec 32 := 8#32
  let v1769 : BitVec 32 := Scalar.subi v617 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off10 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_369 : BitVec 32 := 0#32
  let v617 : BitVec 32 := Scalar.addi v616 c0_i32_369
  let c0_i32_372 : BitVec 32 := 0#32
  let v622 : BitVec 1 := Scalar.cmpi .sgt v617 c0_i32_372
  let v623 : BitVec 32 := Scalar.extui v622
  let c0_i32_373 : BitVec 32 := 0#32
  let v624 : BitVec 1 := Scalar.cmpi .slt v617 c0_i32_373
  let v625 : BitVec 32 := Scalar.extui v624
  let v626 : BitVec 32 := Scalar.subi v623 v625
  let c64_i32 : BitVec 32 := 64#32
  let c0_i32_374 : BitVec 32 := 0#32
  let v627 : BitVec 1 := Scalar.cmpi .sgt c64_i32 c0_i32_374
  let v628 : BitVec 32 := Scalar.extui v627
  let c0_i32_375 : BitVec 32 := 0#32
  let v629 : BitVec 1 := Scalar.cmpi .slt c64_i32 c0_i32_375
  let v630 : BitVec 32 := Scalar.extui v629
  let v631 : BitVec 32 := Scalar.subi v628 v630
  let v632 : BitVec 1 := Scalar.cmpi .ne v626 v631
  let v633 : BitVec 32 := Scalar.remsi v617 c64_i32
  let c0_i32_376 : BitVec 32 := 0#32
  let v634 : BitVec 1 := Scalar.cmpi .ne v633 c0_i32_376
  let v635 : BitVec 1 := Scalar.andi v632 v634
  let v621 : BitVec 32 := Scalar.divsi v617 c64_i32
  let c1_i32_377 : BitVec 32 := 1#32
  let v636 : BitVec 32 := Scalar.subi v621 c1_i32_377
  let v637 : BitVec 32 := Scalar.select v635 v636 v621
  let v638 : BitVec 32 := Scalar.addi v2 v637
  let c0_i32_385 : BitVec 32 := 0#32
  let v650 : BitVec 1 := Scalar.cmpi .sgt v638 c0_i32_385
  let v651 : BitVec 32 := Scalar.extui v650
  let c0_i32_386 : BitVec 32 := 0#32
  let v652 : BitVec 1 := Scalar.cmpi .slt v638 c0_i32_386
  let v653 : BitVec 32 := Scalar.extui v652
  let v654 : BitVec 32 := Scalar.subi v651 v653
  let c4_i32_384 : BitVec 32 := 4#32
  let c0_i32_387 : BitVec 32 := 0#32
  let v655 : BitVec 1 := Scalar.cmpi .sgt c4_i32_384 c0_i32_387
  let v656 : BitVec 32 := Scalar.extui v655
  let c0_i32_388 : BitVec 32 := 0#32
  let v657 : BitVec 1 := Scalar.cmpi .slt c4_i32_384 c0_i32_388
  let v658 : BitVec 32 := Scalar.extui v657
  let v659 : BitVec 32 := Scalar.subi v656 v658
  let v660 : BitVec 1 := Scalar.cmpi .ne v654 v659
  let v661 : BitVec 32 := Scalar.remsi v638 c4_i32_384
  let c0_i32_389 : BitVec 32 := 0#32
  let v662 : BitVec 1 := Scalar.cmpi .ne v661 c0_i32_389
  let v663 : BitVec 1 := Scalar.andi v660 v662
  let v649 : BitVec 32 := Scalar.divsi v638 c4_i32_384
  let c1_i32_390 : BitVec 32 := 1#32
  let v664 : BitVec 32 := Scalar.subi v649 c1_i32_390
  let v665 : BitVec 32 := Scalar.select v663 v664 v649
  let c4_i32_391 : BitVec 32 := 4#32
  let c0_i32_392 : BitVec 32 := 0#32
  let v666 : BitVec 1 := Scalar.cmpi .eq c4_i32_391 c0_i32_392
  let c1_i32_393 : BitVec 32 := 1#32
  let v667 : BitVec 32 := Scalar.select v666 c1_i32_393 c4_i32_391
  let v668 : BitVec 32 := Scalar.remsi v638 v667
  let c0_i32_395 : BitVec 32 := 0#32
  let v670 : BitVec 1 := Scalar.cmpi .slt v668 c0_i32_395
  let c0_i32_396 : BitVec 32 := 0#32
  let v671 : BitVec 1 := Scalar.cmpi .slt v667 c0_i32_396
  let v672 : BitVec 1 := Scalar.xori v670 v671
  let c0_i32_394 : BitVec 32 := 0#32
  let v669 : BitVec 1 := Scalar.cmpi .ne v668 c0_i32_394
  let v673 : BitVec 1 := Scalar.andi v672 v669
  let v674 : BitVec 32 := Scalar.addi v668 v667
  let v675 : BitVec 32 := Scalar.select v673 v674 v668
  let c0_i32_402 : BitVec 32 := 0#32
  let c64_i32_378 : BitVec 32 := 64#32
  let c0_i32_379 : BitVec 32 := 0#32
  let v639 : BitVec 1 := Scalar.cmpi .eq c64_i32_378 c0_i32_379
  let c1_i32_380 : BitVec 32 := 1#32
  let v640 : BitVec 32 := Scalar.select v639 c1_i32_380 c64_i32_378
  let v641 : BitVec 32 := Scalar.remsi v617 v640
  let c0_i32_382 : BitVec 32 := 0#32
  let v643 : BitVec 1 := Scalar.cmpi .slt v641 c0_i32_382
  let c0_i32_383 : BitVec 32 := 0#32
  let v644 : BitVec 1 := Scalar.cmpi .slt v640 c0_i32_383
  let v645 : BitVec 1 := Scalar.xori v643 v644
  let c0_i32_381 : BitVec 32 := 0#32
  let v642 : BitVec 1 := Scalar.cmpi .ne v641 c0_i32_381
  let v646 : BitVec 1 := Scalar.andi v645 v642
  let v647 : BitVec 32 := Scalar.addi v641 v640
  let v648 : BitVec 32 := Scalar.select v646 v647 v641
  let c4096_i32_397 : BitVec 32 := 4096#32
  let v676 : BitVec 32 := Scalar.muli v648 c4096_i32_397
  ![v665.toNat, v675.toNat, 0, v676.toNat]
@[reducible] def k0_t2_loop : Scf.Loop 32 :=
  let c0_i32_407 : BitVec 32 := 0#32
  let c32_i32 : BitVec 32 := 32#32
  let v688 : BitVec 32 := Scalar.addi c0_i32_407 c32_i32
  let c1_i32_408 : BitVec 32 := 1#32
  ⟨c0_i32_407, v688, c1_i32_408⟩

def k0_chk1 (v687 : IVec S16 32) (v1773 : IVec S16 32) : Prop :=
  (∀ a x, ((![v687, v1773] : Fin 2 → IVec S16 32) a x).toNat < S2x4096.size a)
theorem k0_idx1_inb : ∀ (v687 : IVec S16 32) (v1773 : IVec S16 32) (k0_hw1 : k0_chk1 v687 v1773), ∀ a x, ((![v687, v1773] : Fin 2 → IVec S16 32) a x).toNat < S2x4096.size a := fun v687 v1773 k0_hw1 => k0_hw1
def k0_off11 (k0_t2 : Fin k0_t2_loop.trips) : Fin 3 → Nat :=
  let c0_i32_1060 : BitVec 32 := 0#32
  let v1778 : Index := Scalar.indexCast c0_i32_1060
  let c0_i32_1061 : BitVec 32 := 0#32
  let v1779 : Index := Scalar.indexCast c0_i32_1061
  let c0_i32_1054 : BitVec 32 := 0#32
  let c0_i32_407 : BitVec 32 := 0#32
  let c1_i32_408 : BitVec 32 := 1#32
  let arg9 : BitVec 32 := Scf.iv c0_i32_407 c1_i32_408 k0_t2
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![0, 0, v1780.toNat]
@[reducible] def k0_t3_loop : Scf.Loop 32 :=
  let c0_i32_411 : BitVec 32 := 0#32
  let c32_i32_412 : BitVec 32 := 32#32
  let v690 : BitVec 32 := Scalar.addi c0_i32_411 c32_i32_412
  let c1_i32_413 : BitVec 32 := 1#32
  ⟨c0_i32_411, v690, c1_i32_413⟩

def k0_chk2 (v689 : IVec S16 32) (v1773 : IVec S16 32) : Prop :=
  (∀ a x, ((![v689, v1773] : Fin 2 → IVec S16 32) a x).toNat < S2x4096.size a)
theorem k0_idx2_inb : ∀ (v689 : IVec S16 32) (v1773 : IVec S16 32) (k0_hw2 : k0_chk2 v689 v1773), ∀ a x, ((![v689, v1773] : Fin 2 → IVec S16 32) a x).toNat < S2x4096.size a := fun v689 v1773 k0_hw2 => k0_hw2
def k0_off12 (k0_t3 : Fin k0_t3_loop.trips) : Fin 3 → Nat :=
  let c0_i32_1060 : BitVec 32 := 0#32
  let v1778 : Index := Scalar.indexCast c0_i32_1060
  let c1_i32_1061 : BitVec 32 := 1#32
  let v1779 : Index := Scalar.indexCast c1_i32_1061
  let c0_i32_1054 : BitVec 32 := 0#32
  let c0_i32_411 : BitVec 32 := 0#32
  let c1_i32_413 : BitVec 32 := 1#32
  let arg9 : BitVec 32 := Scf.iv c0_i32_411 c1_i32_413 k0_t3
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![0, 1, v1780.toNat]
def k0_off13 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_369 : BitVec 32 := 0#32
  let v617 : BitVec 32 := Scalar.addi v616 c0_i32_369
  let c0_i32_416 : BitVec 32 := 0#32
  let v692 : BitVec 1 := Scalar.cmpi .sgt v617 c0_i32_416
  let v693 : BitVec 32 := Scalar.extui v692
  let c0_i32_417 : BitVec 32 := 0#32
  let v694 : BitVec 1 := Scalar.cmpi .slt v617 c0_i32_417
  let v695 : BitVec 32 := Scalar.extui v694
  let v696 : BitVec 32 := Scalar.subi v693 v695
  let c64_i32_415 : BitVec 32 := 64#32
  let c0_i32_418 : BitVec 32 := 0#32
  let v697 : BitVec 1 := Scalar.cmpi .sgt c64_i32_415 c0_i32_418
  let v698 : BitVec 32 := Scalar.extui v697
  let c0_i32_419 : BitVec 32 := 0#32
  let v699 : BitVec 1 := Scalar.cmpi .slt c64_i32_415 c0_i32_419
  let v700 : BitVec 32 := Scalar.extui v699
  let v701 : BitVec 32 := Scalar.subi v698 v700
  let v702 : BitVec 1 := Scalar.cmpi .ne v696 v701
  let v703 : BitVec 32 := Scalar.remsi v617 c64_i32_415
  let c0_i32_420 : BitVec 32 := 0#32
  let v704 : BitVec 1 := Scalar.cmpi .ne v703 c0_i32_420
  let v705 : BitVec 1 := Scalar.andi v702 v704
  let v691 : BitVec 32 := Scalar.divsi v617 c64_i32_415
  let c1_i32_421 : BitVec 32 := 1#32
  let v706 : BitVec 32 := Scalar.subi v691 c1_i32_421
  let v707 : BitVec 32 := Scalar.select v705 v706 v691
  let v708 : BitVec 32 := Scalar.addi v2 v707
  let c0_i32_429 : BitVec 32 := 0#32
  let v720 : BitVec 1 := Scalar.cmpi .sgt v708 c0_i32_429
  let v721 : BitVec 32 := Scalar.extui v720
  let c0_i32_430 : BitVec 32 := 0#32
  let v722 : BitVec 1 := Scalar.cmpi .slt v708 c0_i32_430
  let v723 : BitVec 32 := Scalar.extui v722
  let v724 : BitVec 32 := Scalar.subi v721 v723
  let c4_i32_428 : BitVec 32 := 4#32
  let c0_i32_431 : BitVec 32 := 0#32
  let v725 : BitVec 1 := Scalar.cmpi .sgt c4_i32_428 c0_i32_431
  let v726 : BitVec 32 := Scalar.extui v725
  let c0_i32_432 : BitVec 32 := 0#32
  let v727 : BitVec 1 := Scalar.cmpi .slt c4_i32_428 c0_i32_432
  let v728 : BitVec 32 := Scalar.extui v727
  let v729 : BitVec 32 := Scalar.subi v726 v728
  let v730 : BitVec 1 := Scalar.cmpi .ne v724 v729
  let v731 : BitVec 32 := Scalar.remsi v708 c4_i32_428
  let c0_i32_433 : BitVec 32 := 0#32
  let v732 : BitVec 1 := Scalar.cmpi .ne v731 c0_i32_433
  let v733 : BitVec 1 := Scalar.andi v730 v732
  let v719 : BitVec 32 := Scalar.divsi v708 c4_i32_428
  let c1_i32_434 : BitVec 32 := 1#32
  let v734 : BitVec 32 := Scalar.subi v719 c1_i32_434
  let v735 : BitVec 32 := Scalar.select v733 v734 v719
  let c4_i32_435 : BitVec 32 := 4#32
  let c0_i32_436 : BitVec 32 := 0#32
  let v736 : BitVec 1 := Scalar.cmpi .eq c4_i32_435 c0_i32_436
  let c1_i32_437 : BitVec 32 := 1#32
  let v737 : BitVec 32 := Scalar.select v736 c1_i32_437 c4_i32_435
  let v738 : BitVec 32 := Scalar.remsi v708 v737
  let c0_i32_439 : BitVec 32 := 0#32
  let v740 : BitVec 1 := Scalar.cmpi .slt v738 c0_i32_439
  let c0_i32_440 : BitVec 32 := 0#32
  let v741 : BitVec 1 := Scalar.cmpi .slt v737 c0_i32_440
  let v742 : BitVec 1 := Scalar.xori v740 v741
  let c0_i32_438 : BitVec 32 := 0#32
  let v739 : BitVec 1 := Scalar.cmpi .ne v738 c0_i32_438
  let v743 : BitVec 1 := Scalar.andi v742 v739
  let v744 : BitVec 32 := Scalar.addi v738 v737
  let v745 : BitVec 32 := Scalar.select v743 v744 v738
  let c0_i32_445 : BitVec 32 := 0#32
  let c64_i32_422 : BitVec 32 := 64#32
  let c0_i32_423 : BitVec 32 := 0#32
  let v709 : BitVec 1 := Scalar.cmpi .eq c64_i32_422 c0_i32_423
  let c1_i32_424 : BitVec 32 := 1#32
  let v710 : BitVec 32 := Scalar.select v709 c1_i32_424 c64_i32_422
  let v711 : BitVec 32 := Scalar.remsi v617 v710
  let c0_i32_426 : BitVec 32 := 0#32
  let v713 : BitVec 1 := Scalar.cmpi .slt v711 c0_i32_426
  let c0_i32_427 : BitVec 32 := 0#32
  let v714 : BitVec 1 := Scalar.cmpi .slt v710 c0_i32_427
  let v715 : BitVec 1 := Scalar.xori v713 v714
  let c0_i32_425 : BitVec 32 := 0#32
  let v712 : BitVec 1 := Scalar.cmpi .ne v711 c0_i32_425
  let v716 : BitVec 1 := Scalar.andi v715 v712
  let v717 : BitVec 32 := Scalar.addi v711 v710
  let v718 : BitVec 32 := Scalar.select v716 v717 v711
  let c512_i32 : BitVec 32 := 512#32
  let v746 : BitVec 32 := Scalar.muli v718 c512_i32
  ![v735.toNat, v745.toNat, 0, v746.toNat]
def k0_cond2 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_369 : BitVec 32 := 0#32
  let v617 : BitVec 32 := Scalar.addi v616 c0_i32_369
  let c8_i32_449 : BitVec 32 := 8#32
  let v757 : BitVec 32 := Scalar.addi v617 c8_i32_449
  let c128_i32 : BitVec 32 := 128#32
  let v758 : BitVec 1 := Scalar.cmpi .slt v757 c128_i32
  let v759 : BitVec 32 := Scalar.extui v758
  let c0_i32_450 : BitVec 32 := 0#32
  let v760 : BitVec 1 := Scalar.cmpi .ne v759 c0_i32_450
  v760

def k0_off14 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_369 : BitVec 32 := 0#32
  let v617 : BitVec 32 := Scalar.addi v616 c0_i32_369
  let c8_i32_1053 : BitVec 32 := 8#32
  let v1769 : BitVec 32 := Scalar.addi v617 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond3 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_452 : BitVec 32 := 0#32
  let v762 : BitVec 1 := Scalar.cmpi .sgt v616 c0_i32_452
  let v763 : BitVec 32 := Scalar.extui v762
  let c0_i32_453 : BitVec 32 := 0#32
  let v764 : BitVec 1 := Scalar.cmpi .ne v763 c0_i32_453
  v764

def k0_off15 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c1_i32_451 : BitVec 32 := 1#32
  let v761 : BitVec 32 := Scalar.addi v616 c1_i32_451
  let c8_i32_1053 : BitVec 32 := 8#32
  let v1769 : BitVec 32 := Scalar.subi v761 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off16 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c1_i32_451 : BitVec 32 := 1#32
  let v761 : BitVec 32 := Scalar.addi v616 c1_i32_451
  let c0_i32_455 : BitVec 32 := 0#32
  let v766 : BitVec 1 := Scalar.cmpi .sgt v761 c0_i32_455
  let v767 : BitVec 32 := Scalar.extui v766
  let c0_i32_456 : BitVec 32 := 0#32
  let v768 : BitVec 1 := Scalar.cmpi .slt v761 c0_i32_456
  let v769 : BitVec 32 := Scalar.extui v768
  let v770 : BitVec 32 := Scalar.subi v767 v769
  let c64_i32_454 : BitVec 32 := 64#32
  let c0_i32_457 : BitVec 32 := 0#32
  let v771 : BitVec 1 := Scalar.cmpi .sgt c64_i32_454 c0_i32_457
  let v772 : BitVec 32 := Scalar.extui v771
  let c0_i32_458 : BitVec 32 := 0#32
  let v773 : BitVec 1 := Scalar.cmpi .slt c64_i32_454 c0_i32_458
  let v774 : BitVec 32 := Scalar.extui v773
  let v775 : BitVec 32 := Scalar.subi v772 v774
  let v776 : BitVec 1 := Scalar.cmpi .ne v770 v775
  let v777 : BitVec 32 := Scalar.remsi v761 c64_i32_454
  let c0_i32_459 : BitVec 32 := 0#32
  let v778 : BitVec 1 := Scalar.cmpi .ne v777 c0_i32_459
  let v779 : BitVec 1 := Scalar.andi v776 v778
  let v765 : BitVec 32 := Scalar.divsi v761 c64_i32_454
  let c1_i32_460 : BitVec 32 := 1#32
  let v780 : BitVec 32 := Scalar.subi v765 c1_i32_460
  let v781 : BitVec 32 := Scalar.select v779 v780 v765
  let v782 : BitVec 32 := Scalar.addi v2 v781
  let c0_i32_468 : BitVec 32 := 0#32
  let v794 : BitVec 1 := Scalar.cmpi .sgt v782 c0_i32_468
  let v795 : BitVec 32 := Scalar.extui v794
  let c0_i32_469 : BitVec 32 := 0#32
  let v796 : BitVec 1 := Scalar.cmpi .slt v782 c0_i32_469
  let v797 : BitVec 32 := Scalar.extui v796
  let v798 : BitVec 32 := Scalar.subi v795 v797
  let c4_i32_467 : BitVec 32 := 4#32
  let c0_i32_470 : BitVec 32 := 0#32
  let v799 : BitVec 1 := Scalar.cmpi .sgt c4_i32_467 c0_i32_470
  let v800 : BitVec 32 := Scalar.extui v799
  let c0_i32_471 : BitVec 32 := 0#32
  let v801 : BitVec 1 := Scalar.cmpi .slt c4_i32_467 c0_i32_471
  let v802 : BitVec 32 := Scalar.extui v801
  let v803 : BitVec 32 := Scalar.subi v800 v802
  let v804 : BitVec 1 := Scalar.cmpi .ne v798 v803
  let v805 : BitVec 32 := Scalar.remsi v782 c4_i32_467
  let c0_i32_472 : BitVec 32 := 0#32
  let v806 : BitVec 1 := Scalar.cmpi .ne v805 c0_i32_472
  let v807 : BitVec 1 := Scalar.andi v804 v806
  let v793 : BitVec 32 := Scalar.divsi v782 c4_i32_467
  let c1_i32_473 : BitVec 32 := 1#32
  let v808 : BitVec 32 := Scalar.subi v793 c1_i32_473
  let v809 : BitVec 32 := Scalar.select v807 v808 v793
  let c4_i32_474 : BitVec 32 := 4#32
  let c0_i32_475 : BitVec 32 := 0#32
  let v810 : BitVec 1 := Scalar.cmpi .eq c4_i32_474 c0_i32_475
  let c1_i32_476 : BitVec 32 := 1#32
  let v811 : BitVec 32 := Scalar.select v810 c1_i32_476 c4_i32_474
  let v812 : BitVec 32 := Scalar.remsi v782 v811
  let c0_i32_478 : BitVec 32 := 0#32
  let v814 : BitVec 1 := Scalar.cmpi .slt v812 c0_i32_478
  let c0_i32_479 : BitVec 32 := 0#32
  let v815 : BitVec 1 := Scalar.cmpi .slt v811 c0_i32_479
  let v816 : BitVec 1 := Scalar.xori v814 v815
  let c0_i32_477 : BitVec 32 := 0#32
  let v813 : BitVec 1 := Scalar.cmpi .ne v812 c0_i32_477
  let v817 : BitVec 1 := Scalar.andi v816 v813
  let v818 : BitVec 32 := Scalar.addi v812 v811
  let v819 : BitVec 32 := Scalar.select v817 v818 v812
  let c0_i32_485 : BitVec 32 := 0#32
  let c64_i32_461 : BitVec 32 := 64#32
  let c0_i32_462 : BitVec 32 := 0#32
  let v783 : BitVec 1 := Scalar.cmpi .eq c64_i32_461 c0_i32_462
  let c1_i32_463 : BitVec 32 := 1#32
  let v784 : BitVec 32 := Scalar.select v783 c1_i32_463 c64_i32_461
  let v785 : BitVec 32 := Scalar.remsi v761 v784
  let c0_i32_465 : BitVec 32 := 0#32
  let v787 : BitVec 1 := Scalar.cmpi .slt v785 c0_i32_465
  let c0_i32_466 : BitVec 32 := 0#32
  let v788 : BitVec 1 := Scalar.cmpi .slt v784 c0_i32_466
  let v789 : BitVec 1 := Scalar.xori v787 v788
  let c0_i32_464 : BitVec 32 := 0#32
  let v786 : BitVec 1 := Scalar.cmpi .ne v785 c0_i32_464
  let v790 : BitVec 1 := Scalar.andi v789 v786
  let v791 : BitVec 32 := Scalar.addi v785 v784
  let v792 : BitVec 32 := Scalar.select v790 v791 v785
  let c4096_i32_480 : BitVec 32 := 4096#32
  let v820 : BitVec 32 := Scalar.muli v792 c4096_i32_480
  ![v809.toNat, v819.toNat, 0, v820.toNat]
@[reducible] def k0_t4_loop : Scf.Loop 32 :=
  let c0_i32_490 : BitVec 32 := 0#32
  let c32_i32_491 : BitVec 32 := 32#32
  let v832 : BitVec 32 := Scalar.addi c0_i32_490 c32_i32_491
  let c1_i32_492 : BitVec 32 := 1#32
  ⟨c0_i32_490, v832, c1_i32_492⟩

def k0_chk3 (v831 : IVec S16 32) (v1773 : IVec S16 32) : Prop :=
  (∀ a x, ((![v831, v1773] : Fin 2 → IVec S16 32) a x).toNat < S2x4096.size a)
theorem k0_idx3_inb : ∀ (v831 : IVec S16 32) (v1773 : IVec S16 32) (k0_hw3 : k0_chk3 v831 v1773), ∀ a x, ((![v831, v1773] : Fin 2 → IVec S16 32) a x).toNat < S2x4096.size a := fun v831 v1773 k0_hw3 => k0_hw3
def k0_off17 (k0_t4 : Fin k0_t4_loop.trips) : Fin 3 → Nat :=
  let c1_i32_1060 : BitVec 32 := 1#32
  let v1778 : Index := Scalar.indexCast c1_i32_1060
  let c0_i32_1061 : BitVec 32 := 0#32
  let v1779 : Index := Scalar.indexCast c0_i32_1061
  let c0_i32_1054 : BitVec 32 := 0#32
  let c0_i32_490 : BitVec 32 := 0#32
  let c1_i32_492 : BitVec 32 := 1#32
  let arg9 : BitVec 32 := Scf.iv c0_i32_490 c1_i32_492 k0_t4
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![1, 0, v1780.toNat]
@[reducible] def k0_t5_loop : Scf.Loop 32 :=
  let c0_i32_495 : BitVec 32 := 0#32
  let c32_i32_496 : BitVec 32 := 32#32
  let v834 : BitVec 32 := Scalar.addi c0_i32_495 c32_i32_496
  let c1_i32_497 : BitVec 32 := 1#32
  ⟨c0_i32_495, v834, c1_i32_497⟩

def k0_chk4 (v833 : IVec S16 32) (v1773 : IVec S16 32) : Prop :=
  (∀ a x, ((![v833, v1773] : Fin 2 → IVec S16 32) a x).toNat < S2x4096.size a)
theorem k0_idx4_inb : ∀ (v833 : IVec S16 32) (v1773 : IVec S16 32) (k0_hw4 : k0_chk4 v833 v1773), ∀ a x, ((![v833, v1773] : Fin 2 → IVec S16 32) a x).toNat < S2x4096.size a := fun v833 v1773 k0_hw4 => k0_hw4
def k0_off18 (k0_t5 : Fin k0_t5_loop.trips) : Fin 3 → Nat :=
  let c1_i32_1060 : BitVec 32 := 1#32
  let v1778 : Index := Scalar.indexCast c1_i32_1060
  let c1_i32_1061 : BitVec 32 := 1#32
  let v1779 : Index := Scalar.indexCast c1_i32_1061
  let c0_i32_1054 : BitVec 32 := 0#32
  let c0_i32_495 : BitVec 32 := 0#32
  let c1_i32_497 : BitVec 32 := 1#32
  let arg9 : BitVec 32 := Scf.iv c0_i32_495 c1_i32_497 k0_t5
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![1, 1, v1780.toNat]
def k0_off19 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c1_i32_451 : BitVec 32 := 1#32
  let v761 : BitVec 32 := Scalar.addi v616 c1_i32_451
  let c0_i32_500 : BitVec 32 := 0#32
  let v836 : BitVec 1 := Scalar.cmpi .sgt v761 c0_i32_500
  let v837 : BitVec 32 := Scalar.extui v836
  let c0_i32_501 : BitVec 32 := 0#32
  let v838 : BitVec 1 := Scalar.cmpi .slt v761 c0_i32_501
  let v839 : BitVec 32 := Scalar.extui v838
  let v840 : BitVec 32 := Scalar.subi v837 v839
  let c64_i32_499 : BitVec 32 := 64#32
  let c0_i32_502 : BitVec 32 := 0#32
  let v841 : BitVec 1 := Scalar.cmpi .sgt c64_i32_499 c0_i32_502
  let v842 : BitVec 32 := Scalar.extui v841
  let c0_i32_503 : BitVec 32 := 0#32
  let v843 : BitVec 1 := Scalar.cmpi .slt c64_i32_499 c0_i32_503
  let v844 : BitVec 32 := Scalar.extui v843
  let v845 : BitVec 32 := Scalar.subi v842 v844
  let v846 : BitVec 1 := Scalar.cmpi .ne v840 v845
  let v847 : BitVec 32 := Scalar.remsi v761 c64_i32_499
  let c0_i32_504 : BitVec 32 := 0#32
  let v848 : BitVec 1 := Scalar.cmpi .ne v847 c0_i32_504
  let v849 : BitVec 1 := Scalar.andi v846 v848
  let v835 : BitVec 32 := Scalar.divsi v761 c64_i32_499
  let c1_i32_505 : BitVec 32 := 1#32
  let v850 : BitVec 32 := Scalar.subi v835 c1_i32_505
  let v851 : BitVec 32 := Scalar.select v849 v850 v835
  let v852 : BitVec 32 := Scalar.addi v2 v851
  let c0_i32_513 : BitVec 32 := 0#32
  let v864 : BitVec 1 := Scalar.cmpi .sgt v852 c0_i32_513
  let v865 : BitVec 32 := Scalar.extui v864
  let c0_i32_514 : BitVec 32 := 0#32
  let v866 : BitVec 1 := Scalar.cmpi .slt v852 c0_i32_514
  let v867 : BitVec 32 := Scalar.extui v866
  let v868 : BitVec 32 := Scalar.subi v865 v867
  let c4_i32_512 : BitVec 32 := 4#32
  let c0_i32_515 : BitVec 32 := 0#32
  let v869 : BitVec 1 := Scalar.cmpi .sgt c4_i32_512 c0_i32_515
  let v870 : BitVec 32 := Scalar.extui v869
  let c0_i32_516 : BitVec 32 := 0#32
  let v871 : BitVec 1 := Scalar.cmpi .slt c4_i32_512 c0_i32_516
  let v872 : BitVec 32 := Scalar.extui v871
  let v873 : BitVec 32 := Scalar.subi v870 v872
  let v874 : BitVec 1 := Scalar.cmpi .ne v868 v873
  let v875 : BitVec 32 := Scalar.remsi v852 c4_i32_512
  let c0_i32_517 : BitVec 32 := 0#32
  let v876 : BitVec 1 := Scalar.cmpi .ne v875 c0_i32_517
  let v877 : BitVec 1 := Scalar.andi v874 v876
  let v863 : BitVec 32 := Scalar.divsi v852 c4_i32_512
  let c1_i32_518 : BitVec 32 := 1#32
  let v878 : BitVec 32 := Scalar.subi v863 c1_i32_518
  let v879 : BitVec 32 := Scalar.select v877 v878 v863
  let c4_i32_519 : BitVec 32 := 4#32
  let c0_i32_520 : BitVec 32 := 0#32
  let v880 : BitVec 1 := Scalar.cmpi .eq c4_i32_519 c0_i32_520
  let c1_i32_521 : BitVec 32 := 1#32
  let v881 : BitVec 32 := Scalar.select v880 c1_i32_521 c4_i32_519
  let v882 : BitVec 32 := Scalar.remsi v852 v881
  let c0_i32_523 : BitVec 32 := 0#32
  let v884 : BitVec 1 := Scalar.cmpi .slt v882 c0_i32_523
  let c0_i32_524 : BitVec 32 := 0#32
  let v885 : BitVec 1 := Scalar.cmpi .slt v881 c0_i32_524
  let v886 : BitVec 1 := Scalar.xori v884 v885
  let c0_i32_522 : BitVec 32 := 0#32
  let v883 : BitVec 1 := Scalar.cmpi .ne v882 c0_i32_522
  let v887 : BitVec 1 := Scalar.andi v886 v883
  let v888 : BitVec 32 := Scalar.addi v882 v881
  let v889 : BitVec 32 := Scalar.select v887 v888 v882
  let c0_i32_530 : BitVec 32 := 0#32
  let c64_i32_506 : BitVec 32 := 64#32
  let c0_i32_507 : BitVec 32 := 0#32
  let v853 : BitVec 1 := Scalar.cmpi .eq c64_i32_506 c0_i32_507
  let c1_i32_508 : BitVec 32 := 1#32
  let v854 : BitVec 32 := Scalar.select v853 c1_i32_508 c64_i32_506
  let v855 : BitVec 32 := Scalar.remsi v761 v854
  let c0_i32_510 : BitVec 32 := 0#32
  let v857 : BitVec 1 := Scalar.cmpi .slt v855 c0_i32_510
  let c0_i32_511 : BitVec 32 := 0#32
  let v858 : BitVec 1 := Scalar.cmpi .slt v854 c0_i32_511
  let v859 : BitVec 1 := Scalar.xori v857 v858
  let c0_i32_509 : BitVec 32 := 0#32
  let v856 : BitVec 1 := Scalar.cmpi .ne v855 c0_i32_509
  let v860 : BitVec 1 := Scalar.andi v859 v856
  let v861 : BitVec 32 := Scalar.addi v855 v854
  let v862 : BitVec 32 := Scalar.select v860 v861 v855
  let c512_i32_525 : BitVec 32 := 512#32
  let v890 : BitVec 32 := Scalar.muli v862 c512_i32_525
  ![v879.toNat, v889.toNat, 0, v890.toNat]
def k0_cond4 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c1_i32_451 : BitVec 32 := 1#32
  let v761 : BitVec 32 := Scalar.addi v616 c1_i32_451
  let c8_i32_534 : BitVec 32 := 8#32
  let v901 : BitVec 32 := Scalar.addi v761 c8_i32_534
  let c128_i32_535 : BitVec 32 := 128#32
  let v902 : BitVec 1 := Scalar.cmpi .slt v901 c128_i32_535
  let v903 : BitVec 32 := Scalar.extui v902
  let c0_i32_536 : BitVec 32 := 0#32
  let v904 : BitVec 1 := Scalar.cmpi .ne v903 c0_i32_536
  v904

def k0_off20 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c1_i32_451 : BitVec 32 := 1#32
  let v761 : BitVec 32 := Scalar.addi v616 c1_i32_451
  let c8_i32_1053 : BitVec 32 := 8#32
  let v1769 : BitVec 32 := Scalar.addi v761 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond5 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_538 : BitVec 32 := 0#32
  let v906 : BitVec 1 := Scalar.cmpi .sgt v616 c0_i32_538
  let v907 : BitVec 32 := Scalar.extui v906
  let c0_i32_539 : BitVec 32 := 0#32
  let v908 : BitVec 1 := Scalar.cmpi .ne v907 c0_i32_539
  v908

def k0_off21 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c2_i32_537 : BitVec 32 := 2#32
  let v905 : BitVec 32 := Scalar.addi v616 c2_i32_537
  let c8_i32_1053 : BitVec 32 := 8#32
  let v1769 : BitVec 32 := Scalar.subi v905 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off22 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c2_i32_537 : BitVec 32 := 2#32
  let v905 : BitVec 32 := Scalar.addi v616 c2_i32_537
  let c0_i32_541 : BitVec 32 := 0#32
  let v910 : BitVec 1 := Scalar.cmpi .sgt v905 c0_i32_541
  let v911 : BitVec 32 := Scalar.extui v910
  let c0_i32_542 : BitVec 32 := 0#32
  let v912 : BitVec 1 := Scalar.cmpi .slt v905 c0_i32_542
  let v913 : BitVec 32 := Scalar.extui v912
  let v914 : BitVec 32 := Scalar.subi v911 v913
  let c64_i32_540 : BitVec 32 := 64#32
  let c0_i32_543 : BitVec 32 := 0#32
  let v915 : BitVec 1 := Scalar.cmpi .sgt c64_i32_540 c0_i32_543
  let v916 : BitVec 32 := Scalar.extui v915
  let c0_i32_544 : BitVec 32 := 0#32
  let v917 : BitVec 1 := Scalar.cmpi .slt c64_i32_540 c0_i32_544
  let v918 : BitVec 32 := Scalar.extui v917
  let v919 : BitVec 32 := Scalar.subi v916 v918
  let v920 : BitVec 1 := Scalar.cmpi .ne v914 v919
  let v921 : BitVec 32 := Scalar.remsi v905 c64_i32_540
  let c0_i32_545 : BitVec 32 := 0#32
  let v922 : BitVec 1 := Scalar.cmpi .ne v921 c0_i32_545
  let v923 : BitVec 1 := Scalar.andi v920 v922
  let v909 : BitVec 32 := Scalar.divsi v905 c64_i32_540
  let c1_i32_546 : BitVec 32 := 1#32
  let v924 : BitVec 32 := Scalar.subi v909 c1_i32_546
  let v925 : BitVec 32 := Scalar.select v923 v924 v909
  let v926 : BitVec 32 := Scalar.addi v2 v925
  let c0_i32_554 : BitVec 32 := 0#32
  let v938 : BitVec 1 := Scalar.cmpi .sgt v926 c0_i32_554
  let v939 : BitVec 32 := Scalar.extui v938
  let c0_i32_555 : BitVec 32 := 0#32
  let v940 : BitVec 1 := Scalar.cmpi .slt v926 c0_i32_555
  let v941 : BitVec 32 := Scalar.extui v940
  let v942 : BitVec 32 := Scalar.subi v939 v941
  let c4_i32_553 : BitVec 32 := 4#32
  let c0_i32_556 : BitVec 32 := 0#32
  let v943 : BitVec 1 := Scalar.cmpi .sgt c4_i32_553 c0_i32_556
  let v944 : BitVec 32 := Scalar.extui v943
  let c0_i32_557 : BitVec 32 := 0#32
  let v945 : BitVec 1 := Scalar.cmpi .slt c4_i32_553 c0_i32_557
  let v946 : BitVec 32 := Scalar.extui v945
  let v947 : BitVec 32 := Scalar.subi v944 v946
  let v948 : BitVec 1 := Scalar.cmpi .ne v942 v947
  let v949 : BitVec 32 := Scalar.remsi v926 c4_i32_553
  let c0_i32_558 : BitVec 32 := 0#32
  let v950 : BitVec 1 := Scalar.cmpi .ne v949 c0_i32_558
  let v951 : BitVec 1 := Scalar.andi v948 v950
  let v937 : BitVec 32 := Scalar.divsi v926 c4_i32_553
  let c1_i32_559 : BitVec 32 := 1#32
  let v952 : BitVec 32 := Scalar.subi v937 c1_i32_559
  let v953 : BitVec 32 := Scalar.select v951 v952 v937
  let c4_i32_560 : BitVec 32 := 4#32
  let c0_i32_561 : BitVec 32 := 0#32
  let v954 : BitVec 1 := Scalar.cmpi .eq c4_i32_560 c0_i32_561
  let c1_i32_562 : BitVec 32 := 1#32
  let v955 : BitVec 32 := Scalar.select v954 c1_i32_562 c4_i32_560
  let v956 : BitVec 32 := Scalar.remsi v926 v955
  let c0_i32_564 : BitVec 32 := 0#32
  let v958 : BitVec 1 := Scalar.cmpi .slt v956 c0_i32_564
  let c0_i32_565 : BitVec 32 := 0#32
  let v959 : BitVec 1 := Scalar.cmpi .slt v955 c0_i32_565
  let v960 : BitVec 1 := Scalar.xori v958 v959
  let c0_i32_563 : BitVec 32 := 0#32
  let v957 : BitVec 1 := Scalar.cmpi .ne v956 c0_i32_563
  let v961 : BitVec 1 := Scalar.andi v960 v957
  let v962 : BitVec 32 := Scalar.addi v956 v955
  let v963 : BitVec 32 := Scalar.select v961 v962 v956
  let c0_i32_571 : BitVec 32 := 0#32
  let c64_i32_547 : BitVec 32 := 64#32
  let c0_i32_548 : BitVec 32 := 0#32
  let v927 : BitVec 1 := Scalar.cmpi .eq c64_i32_547 c0_i32_548
  let c1_i32_549 : BitVec 32 := 1#32
  let v928 : BitVec 32 := Scalar.select v927 c1_i32_549 c64_i32_547
  let v929 : BitVec 32 := Scalar.remsi v905 v928
  let c0_i32_551 : BitVec 32 := 0#32
  let v931 : BitVec 1 := Scalar.cmpi .slt v929 c0_i32_551
  let c0_i32_552 : BitVec 32 := 0#32
  let v932 : BitVec 1 := Scalar.cmpi .slt v928 c0_i32_552
  let v933 : BitVec 1 := Scalar.xori v931 v932
  let c0_i32_550 : BitVec 32 := 0#32
  let v930 : BitVec 1 := Scalar.cmpi .ne v929 c0_i32_550
  let v934 : BitVec 1 := Scalar.andi v933 v930
  let v935 : BitVec 32 := Scalar.addi v929 v928
  let v936 : BitVec 32 := Scalar.select v934 v935 v929
  let c4096_i32_566 : BitVec 32 := 4096#32
  let v964 : BitVec 32 := Scalar.muli v936 c4096_i32_566
  ![v953.toNat, v963.toNat, 0, v964.toNat]
@[reducible] def k0_t6_loop : Scf.Loop 32 :=
  let c0_i32_576 : BitVec 32 := 0#32
  let c32_i32_577 : BitVec 32 := 32#32
  let v976 : BitVec 32 := Scalar.addi c0_i32_576 c32_i32_577
  let c1_i32_578 : BitVec 32 := 1#32
  ⟨c0_i32_576, v976, c1_i32_578⟩

def k0_chk5 (v975 : IVec S16 32) (v1773 : IVec S16 32) : Prop :=
  (∀ a x, ((![v975, v1773] : Fin 2 → IVec S16 32) a x).toNat < S2x4096.size a)
theorem k0_idx5_inb : ∀ (v975 : IVec S16 32) (v1773 : IVec S16 32) (k0_hw5 : k0_chk5 v975 v1773), ∀ a x, ((![v975, v1773] : Fin 2 → IVec S16 32) a x).toNat < S2x4096.size a := fun v975 v1773 k0_hw5 => k0_hw5
def k0_off23 (k0_t6 : Fin k0_t6_loop.trips) : Fin 3 → Nat :=
  let c2_i32_1060 : BitVec 32 := 2#32
  let v1778 : Index := Scalar.indexCast c2_i32_1060
  let c0_i32_1061 : BitVec 32 := 0#32
  let v1779 : Index := Scalar.indexCast c0_i32_1061
  let c0_i32_1054 : BitVec 32 := 0#32
  let c0_i32_576 : BitVec 32 := 0#32
  let c1_i32_578 : BitVec 32 := 1#32
  let arg9 : BitVec 32 := Scf.iv c0_i32_576 c1_i32_578 k0_t6
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![2, 0, v1780.toNat]
@[reducible] def k0_t7_loop : Scf.Loop 32 :=
  let c0_i32_581 : BitVec 32 := 0#32
  let c32_i32_582 : BitVec 32 := 32#32
  let v978 : BitVec 32 := Scalar.addi c0_i32_581 c32_i32_582
  let c1_i32_583 : BitVec 32 := 1#32
  ⟨c0_i32_581, v978, c1_i32_583⟩

def k0_chk6 (v977 : IVec S16 32) (v1773 : IVec S16 32) : Prop :=
  (∀ a x, ((![v977, v1773] : Fin 2 → IVec S16 32) a x).toNat < S2x4096.size a)
theorem k0_idx6_inb : ∀ (v977 : IVec S16 32) (v1773 : IVec S16 32) (k0_hw6 : k0_chk6 v977 v1773), ∀ a x, ((![v977, v1773] : Fin 2 → IVec S16 32) a x).toNat < S2x4096.size a := fun v977 v1773 k0_hw6 => k0_hw6
def k0_off24 (k0_t7 : Fin k0_t7_loop.trips) : Fin 3 → Nat :=
  let c2_i32_1060 : BitVec 32 := 2#32
  let v1778 : Index := Scalar.indexCast c2_i32_1060
  let c1_i32_1061 : BitVec 32 := 1#32
  let v1779 : Index := Scalar.indexCast c1_i32_1061
  let c0_i32_1054 : BitVec 32 := 0#32
  let c0_i32_581 : BitVec 32 := 0#32
  let c1_i32_583 : BitVec 32 := 1#32
  let arg9 : BitVec 32 := Scf.iv c0_i32_581 c1_i32_583 k0_t7
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![2, 1, v1780.toNat]
def k0_off25 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c2_i32_537 : BitVec 32 := 2#32
  let v905 : BitVec 32 := Scalar.addi v616 c2_i32_537
  let c0_i32_586 : BitVec 32 := 0#32
  let v980 : BitVec 1 := Scalar.cmpi .sgt v905 c0_i32_586
  let v981 : BitVec 32 := Scalar.extui v980
  let c0_i32_587 : BitVec 32 := 0#32
  let v982 : BitVec 1 := Scalar.cmpi .slt v905 c0_i32_587
  let v983 : BitVec 32 := Scalar.extui v982
  let v984 : BitVec 32 := Scalar.subi v981 v983
  let c64_i32_585 : BitVec 32 := 64#32
  let c0_i32_588 : BitVec 32 := 0#32
  let v985 : BitVec 1 := Scalar.cmpi .sgt c64_i32_585 c0_i32_588
  let v986 : BitVec 32 := Scalar.extui v985
  let c0_i32_589 : BitVec 32 := 0#32
  let v987 : BitVec 1 := Scalar.cmpi .slt c64_i32_585 c0_i32_589
  let v988 : BitVec 32 := Scalar.extui v987
  let v989 : BitVec 32 := Scalar.subi v986 v988
  let v990 : BitVec 1 := Scalar.cmpi .ne v984 v989
  let v991 : BitVec 32 := Scalar.remsi v905 c64_i32_585
  let c0_i32_590 : BitVec 32 := 0#32
  let v992 : BitVec 1 := Scalar.cmpi .ne v991 c0_i32_590
  let v993 : BitVec 1 := Scalar.andi v990 v992
  let v979 : BitVec 32 := Scalar.divsi v905 c64_i32_585
  let c1_i32_591 : BitVec 32 := 1#32
  let v994 : BitVec 32 := Scalar.subi v979 c1_i32_591
  let v995 : BitVec 32 := Scalar.select v993 v994 v979
  let v996 : BitVec 32 := Scalar.addi v2 v995
  let c0_i32_599 : BitVec 32 := 0#32
  let v1008 : BitVec 1 := Scalar.cmpi .sgt v996 c0_i32_599
  let v1009 : BitVec 32 := Scalar.extui v1008
  let c0_i32_600 : BitVec 32 := 0#32
  let v1010 : BitVec 1 := Scalar.cmpi .slt v996 c0_i32_600
  let v1011 : BitVec 32 := Scalar.extui v1010
  let v1012 : BitVec 32 := Scalar.subi v1009 v1011
  let c4_i32_598 : BitVec 32 := 4#32
  let c0_i32_601 : BitVec 32 := 0#32
  let v1013 : BitVec 1 := Scalar.cmpi .sgt c4_i32_598 c0_i32_601
  let v1014 : BitVec 32 := Scalar.extui v1013
  let c0_i32_602 : BitVec 32 := 0#32
  let v1015 : BitVec 1 := Scalar.cmpi .slt c4_i32_598 c0_i32_602
  let v1016 : BitVec 32 := Scalar.extui v1015
  let v1017 : BitVec 32 := Scalar.subi v1014 v1016
  let v1018 : BitVec 1 := Scalar.cmpi .ne v1012 v1017
  let v1019 : BitVec 32 := Scalar.remsi v996 c4_i32_598
  let c0_i32_603 : BitVec 32 := 0#32
  let v1020 : BitVec 1 := Scalar.cmpi .ne v1019 c0_i32_603
  let v1021 : BitVec 1 := Scalar.andi v1018 v1020
  let v1007 : BitVec 32 := Scalar.divsi v996 c4_i32_598
  let c1_i32_604 : BitVec 32 := 1#32
  let v1022 : BitVec 32 := Scalar.subi v1007 c1_i32_604
  let v1023 : BitVec 32 := Scalar.select v1021 v1022 v1007
  let c4_i32_605 : BitVec 32 := 4#32
  let c0_i32_606 : BitVec 32 := 0#32
  let v1024 : BitVec 1 := Scalar.cmpi .eq c4_i32_605 c0_i32_606
  let c1_i32_607 : BitVec 32 := 1#32
  let v1025 : BitVec 32 := Scalar.select v1024 c1_i32_607 c4_i32_605
  let v1026 : BitVec 32 := Scalar.remsi v996 v1025
  let c0_i32_609 : BitVec 32 := 0#32
  let v1028 : BitVec 1 := Scalar.cmpi .slt v1026 c0_i32_609
  let c0_i32_610 : BitVec 32 := 0#32
  let v1029 : BitVec 1 := Scalar.cmpi .slt v1025 c0_i32_610
  let v1030 : BitVec 1 := Scalar.xori v1028 v1029
  let c0_i32_608 : BitVec 32 := 0#32
  let v1027 : BitVec 1 := Scalar.cmpi .ne v1026 c0_i32_608
  let v1031 : BitVec 1 := Scalar.andi v1030 v1027
  let v1032 : BitVec 32 := Scalar.addi v1026 v1025
  let v1033 : BitVec 32 := Scalar.select v1031 v1032 v1026
  let c0_i32_616 : BitVec 32 := 0#32
  let c64_i32_592 : BitVec 32 := 64#32
  let c0_i32_593 : BitVec 32 := 0#32
  let v997 : BitVec 1 := Scalar.cmpi .eq c64_i32_592 c0_i32_593
  let c1_i32_594 : BitVec 32 := 1#32
  let v998 : BitVec 32 := Scalar.select v997 c1_i32_594 c64_i32_592
  let v999 : BitVec 32 := Scalar.remsi v905 v998
  let c0_i32_596 : BitVec 32 := 0#32
  let v1001 : BitVec 1 := Scalar.cmpi .slt v999 c0_i32_596
  let c0_i32_597 : BitVec 32 := 0#32
  let v1002 : BitVec 1 := Scalar.cmpi .slt v998 c0_i32_597
  let v1003 : BitVec 1 := Scalar.xori v1001 v1002
  let c0_i32_595 : BitVec 32 := 0#32
  let v1000 : BitVec 1 := Scalar.cmpi .ne v999 c0_i32_595
  let v1004 : BitVec 1 := Scalar.andi v1003 v1000
  let v1005 : BitVec 32 := Scalar.addi v999 v998
  let v1006 : BitVec 32 := Scalar.select v1004 v1005 v999
  let c512_i32_611 : BitVec 32 := 512#32
  let v1034 : BitVec 32 := Scalar.muli v1006 c512_i32_611
  ![v1023.toNat, v1033.toNat, 0, v1034.toNat]
def k0_cond6 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c2_i32_537 : BitVec 32 := 2#32
  let v905 : BitVec 32 := Scalar.addi v616 c2_i32_537
  let c8_i32_620 : BitVec 32 := 8#32
  let v1045 : BitVec 32 := Scalar.addi v905 c8_i32_620
  let c128_i32_621 : BitVec 32 := 128#32
  let v1046 : BitVec 1 := Scalar.cmpi .slt v1045 c128_i32_621
  let v1047 : BitVec 32 := Scalar.extui v1046
  let c0_i32_622 : BitVec 32 := 0#32
  let v1048 : BitVec 1 := Scalar.cmpi .ne v1047 c0_i32_622
  v1048

def k0_off26 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c2_i32_537 : BitVec 32 := 2#32
  let v905 : BitVec 32 := Scalar.addi v616 c2_i32_537
  let c8_i32_1053 : BitVec 32 := 8#32
  let v1769 : BitVec 32 := Scalar.addi v905 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond7 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_624 : BitVec 32 := 0#32
  let v1050 : BitVec 1 := Scalar.cmpi .sgt v616 c0_i32_624
  let v1051 : BitVec 32 := Scalar.extui v1050
  let c0_i32_625 : BitVec 32 := 0#32
  let v1052 : BitVec 1 := Scalar.cmpi .ne v1051 c0_i32_625
  v1052

def k0_off27 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c3_i32_623 : BitVec 32 := 3#32
  let v1049 : BitVec 32 := Scalar.addi v616 c3_i32_623
  let c8_i32_1053 : BitVec 32 := 8#32
  let v1769 : BitVec 32 := Scalar.subi v1049 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off28 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c3_i32_623 : BitVec 32 := 3#32
  let v1049 : BitVec 32 := Scalar.addi v616 c3_i32_623
  let c0_i32_627 : BitVec 32 := 0#32
  let v1054 : BitVec 1 := Scalar.cmpi .sgt v1049 c0_i32_627
  let v1055 : BitVec 32 := Scalar.extui v1054
  let c0_i32_628 : BitVec 32 := 0#32
  let v1056 : BitVec 1 := Scalar.cmpi .slt v1049 c0_i32_628
  let v1057 : BitVec 32 := Scalar.extui v1056
  let v1058 : BitVec 32 := Scalar.subi v1055 v1057
  let c64_i32_626 : BitVec 32 := 64#32
  let c0_i32_629 : BitVec 32 := 0#32
  let v1059 : BitVec 1 := Scalar.cmpi .sgt c64_i32_626 c0_i32_629
  let v1060 : BitVec 32 := Scalar.extui v1059
  let c0_i32_630 : BitVec 32 := 0#32
  let v1061 : BitVec 1 := Scalar.cmpi .slt c64_i32_626 c0_i32_630
  let v1062 : BitVec 32 := Scalar.extui v1061
  let v1063 : BitVec 32 := Scalar.subi v1060 v1062
  let v1064 : BitVec 1 := Scalar.cmpi .ne v1058 v1063
  let v1065 : BitVec 32 := Scalar.remsi v1049 c64_i32_626
  let c0_i32_631 : BitVec 32 := 0#32
  let v1066 : BitVec 1 := Scalar.cmpi .ne v1065 c0_i32_631
  let v1067 : BitVec 1 := Scalar.andi v1064 v1066
  let v1053 : BitVec 32 := Scalar.divsi v1049 c64_i32_626
  let c1_i32_632 : BitVec 32 := 1#32
  let v1068 : BitVec 32 := Scalar.subi v1053 c1_i32_632
  let v1069 : BitVec 32 := Scalar.select v1067 v1068 v1053
  let v1070 : BitVec 32 := Scalar.addi v2 v1069
  let c0_i32_640 : BitVec 32 := 0#32
  let v1082 : BitVec 1 := Scalar.cmpi .sgt v1070 c0_i32_640
  let v1083 : BitVec 32 := Scalar.extui v1082
  let c0_i32_641 : BitVec 32 := 0#32
  let v1084 : BitVec 1 := Scalar.cmpi .slt v1070 c0_i32_641
  let v1085 : BitVec 32 := Scalar.extui v1084
  let v1086 : BitVec 32 := Scalar.subi v1083 v1085
  let c4_i32_639 : BitVec 32 := 4#32
  let c0_i32_642 : BitVec 32 := 0#32
  let v1087 : BitVec 1 := Scalar.cmpi .sgt c4_i32_639 c0_i32_642
  let v1088 : BitVec 32 := Scalar.extui v1087
  let c0_i32_643 : BitVec 32 := 0#32
  let v1089 : BitVec 1 := Scalar.cmpi .slt c4_i32_639 c0_i32_643
  let v1090 : BitVec 32 := Scalar.extui v1089
  let v1091 : BitVec 32 := Scalar.subi v1088 v1090
  let v1092 : BitVec 1 := Scalar.cmpi .ne v1086 v1091
  let v1093 : BitVec 32 := Scalar.remsi v1070 c4_i32_639
  let c0_i32_644 : BitVec 32 := 0#32
  let v1094 : BitVec 1 := Scalar.cmpi .ne v1093 c0_i32_644
  let v1095 : BitVec 1 := Scalar.andi v1092 v1094
  let v1081 : BitVec 32 := Scalar.divsi v1070 c4_i32_639
  let c1_i32_645 : BitVec 32 := 1#32
  let v1096 : BitVec 32 := Scalar.subi v1081 c1_i32_645
  let v1097 : BitVec 32 := Scalar.select v1095 v1096 v1081
  let c4_i32_646 : BitVec 32 := 4#32
  let c0_i32_647 : BitVec 32 := 0#32
  let v1098 : BitVec 1 := Scalar.cmpi .eq c4_i32_646 c0_i32_647
  let c1_i32_648 : BitVec 32 := 1#32
  let v1099 : BitVec 32 := Scalar.select v1098 c1_i32_648 c4_i32_646
  let v1100 : BitVec 32 := Scalar.remsi v1070 v1099
  let c0_i32_650 : BitVec 32 := 0#32
  let v1102 : BitVec 1 := Scalar.cmpi .slt v1100 c0_i32_650
  let c0_i32_651 : BitVec 32 := 0#32
  let v1103 : BitVec 1 := Scalar.cmpi .slt v1099 c0_i32_651
  let v1104 : BitVec 1 := Scalar.xori v1102 v1103
  let c0_i32_649 : BitVec 32 := 0#32
  let v1101 : BitVec 1 := Scalar.cmpi .ne v1100 c0_i32_649
  let v1105 : BitVec 1 := Scalar.andi v1104 v1101
  let v1106 : BitVec 32 := Scalar.addi v1100 v1099
  let v1107 : BitVec 32 := Scalar.select v1105 v1106 v1100
  let c0_i32_657 : BitVec 32 := 0#32
  let c64_i32_633 : BitVec 32 := 64#32
  let c0_i32_634 : BitVec 32 := 0#32
  let v1071 : BitVec 1 := Scalar.cmpi .eq c64_i32_633 c0_i32_634
  let c1_i32_635 : BitVec 32 := 1#32
  let v1072 : BitVec 32 := Scalar.select v1071 c1_i32_635 c64_i32_633
  let v1073 : BitVec 32 := Scalar.remsi v1049 v1072
  let c0_i32_637 : BitVec 32 := 0#32
  let v1075 : BitVec 1 := Scalar.cmpi .slt v1073 c0_i32_637
  let c0_i32_638 : BitVec 32 := 0#32
  let v1076 : BitVec 1 := Scalar.cmpi .slt v1072 c0_i32_638
  let v1077 : BitVec 1 := Scalar.xori v1075 v1076
  let c0_i32_636 : BitVec 32 := 0#32
  let v1074 : BitVec 1 := Scalar.cmpi .ne v1073 c0_i32_636
  let v1078 : BitVec 1 := Scalar.andi v1077 v1074
  let v1079 : BitVec 32 := Scalar.addi v1073 v1072
  let v1080 : BitVec 32 := Scalar.select v1078 v1079 v1073
  let c4096_i32_652 : BitVec 32 := 4096#32
  let v1108 : BitVec 32 := Scalar.muli v1080 c4096_i32_652
  ![v1097.toNat, v1107.toNat, 0, v1108.toNat]
@[reducible] def k0_t8_loop : Scf.Loop 32 :=
  let c0_i32_662 : BitVec 32 := 0#32
  let c32_i32_663 : BitVec 32 := 32#32
  let v1120 : BitVec 32 := Scalar.addi c0_i32_662 c32_i32_663
  let c1_i32_664 : BitVec 32 := 1#32
  ⟨c0_i32_662, v1120, c1_i32_664⟩

def k0_chk7 (v1119 : IVec S16 32) (v1773 : IVec S16 32) : Prop :=
  (∀ a x, ((![v1119, v1773] : Fin 2 → IVec S16 32) a x).toNat < S2x4096.size a)
theorem k0_idx7_inb : ∀ (v1119 : IVec S16 32) (v1773 : IVec S16 32) (k0_hw7 : k0_chk7 v1119 v1773), ∀ a x, ((![v1119, v1773] : Fin 2 → IVec S16 32) a x).toNat < S2x4096.size a := fun v1119 v1773 k0_hw7 => k0_hw7
def k0_off29 (k0_t8 : Fin k0_t8_loop.trips) : Fin 3 → Nat :=
  let c3_i32_1060 : BitVec 32 := 3#32
  let v1778 : Index := Scalar.indexCast c3_i32_1060
  let c0_i32_1061 : BitVec 32 := 0#32
  let v1779 : Index := Scalar.indexCast c0_i32_1061
  let c0_i32_1054 : BitVec 32 := 0#32
  let c0_i32_662 : BitVec 32 := 0#32
  let c1_i32_664 : BitVec 32 := 1#32
  let arg9 : BitVec 32 := Scf.iv c0_i32_662 c1_i32_664 k0_t8
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![3, 0, v1780.toNat]
@[reducible] def k0_t9_loop : Scf.Loop 32 :=
  let c0_i32_667 : BitVec 32 := 0#32
  let c32_i32_668 : BitVec 32 := 32#32
  let v1122 : BitVec 32 := Scalar.addi c0_i32_667 c32_i32_668
  let c1_i32_669 : BitVec 32 := 1#32
  ⟨c0_i32_667, v1122, c1_i32_669⟩

def k0_chk8 (v1121 : IVec S16 32) (v1773 : IVec S16 32) : Prop :=
  (∀ a x, ((![v1121, v1773] : Fin 2 → IVec S16 32) a x).toNat < S2x4096.size a)
theorem k0_idx8_inb : ∀ (v1121 : IVec S16 32) (v1773 : IVec S16 32) (k0_hw8 : k0_chk8 v1121 v1773), ∀ a x, ((![v1121, v1773] : Fin 2 → IVec S16 32) a x).toNat < S2x4096.size a := fun v1121 v1773 k0_hw8 => k0_hw8
def k0_off30 (k0_t9 : Fin k0_t9_loop.trips) : Fin 3 → Nat :=
  let c3_i32_1060 : BitVec 32 := 3#32
  let v1778 : Index := Scalar.indexCast c3_i32_1060
  let c1_i32_1061 : BitVec 32 := 1#32
  let v1779 : Index := Scalar.indexCast c1_i32_1061
  let c0_i32_1054 : BitVec 32 := 0#32
  let c0_i32_667 : BitVec 32 := 0#32
  let c1_i32_669 : BitVec 32 := 1#32
  let arg9 : BitVec 32 := Scf.iv c0_i32_667 c1_i32_669 k0_t9
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![3, 1, v1780.toNat]
def k0_off31 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c3_i32_623 : BitVec 32 := 3#32
  let v1049 : BitVec 32 := Scalar.addi v616 c3_i32_623
  let c0_i32_672 : BitVec 32 := 0#32
  let v1124 : BitVec 1 := Scalar.cmpi .sgt v1049 c0_i32_672
  let v1125 : BitVec 32 := Scalar.extui v1124
  let c0_i32_673 : BitVec 32 := 0#32
  let v1126 : BitVec 1 := Scalar.cmpi .slt v1049 c0_i32_673
  let v1127 : BitVec 32 := Scalar.extui v1126
  let v1128 : BitVec 32 := Scalar.subi v1125 v1127
  let c64_i32_671 : BitVec 32 := 64#32
  let c0_i32_674 : BitVec 32 := 0#32
  let v1129 : BitVec 1 := Scalar.cmpi .sgt c64_i32_671 c0_i32_674
  let v1130 : BitVec 32 := Scalar.extui v1129
  let c0_i32_675 : BitVec 32 := 0#32
  let v1131 : BitVec 1 := Scalar.cmpi .slt c64_i32_671 c0_i32_675
  let v1132 : BitVec 32 := Scalar.extui v1131
  let v1133 : BitVec 32 := Scalar.subi v1130 v1132
  let v1134 : BitVec 1 := Scalar.cmpi .ne v1128 v1133
  let v1135 : BitVec 32 := Scalar.remsi v1049 c64_i32_671
  let c0_i32_676 : BitVec 32 := 0#32
  let v1136 : BitVec 1 := Scalar.cmpi .ne v1135 c0_i32_676
  let v1137 : BitVec 1 := Scalar.andi v1134 v1136
  let v1123 : BitVec 32 := Scalar.divsi v1049 c64_i32_671
  let c1_i32_677 : BitVec 32 := 1#32
  let v1138 : BitVec 32 := Scalar.subi v1123 c1_i32_677
  let v1139 : BitVec 32 := Scalar.select v1137 v1138 v1123
  let v1140 : BitVec 32 := Scalar.addi v2 v1139
  let c0_i32_685 : BitVec 32 := 0#32
  let v1152 : BitVec 1 := Scalar.cmpi .sgt v1140 c0_i32_685
  let v1153 : BitVec 32 := Scalar.extui v1152
  let c0_i32_686 : BitVec 32 := 0#32
  let v1154 : BitVec 1 := Scalar.cmpi .slt v1140 c0_i32_686
  let v1155 : BitVec 32 := Scalar.extui v1154
  let v1156 : BitVec 32 := Scalar.subi v1153 v1155
  let c4_i32_684 : BitVec 32 := 4#32
  let c0_i32_687 : BitVec 32 := 0#32
  let v1157 : BitVec 1 := Scalar.cmpi .sgt c4_i32_684 c0_i32_687
  let v1158 : BitVec 32 := Scalar.extui v1157
  let c0_i32_688 : BitVec 32 := 0#32
  let v1159 : BitVec 1 := Scalar.cmpi .slt c4_i32_684 c0_i32_688
  let v1160 : BitVec 32 := Scalar.extui v1159
  let v1161 : BitVec 32 := Scalar.subi v1158 v1160
  let v1162 : BitVec 1 := Scalar.cmpi .ne v1156 v1161
  let v1163 : BitVec 32 := Scalar.remsi v1140 c4_i32_684
  let c0_i32_689 : BitVec 32 := 0#32
  let v1164 : BitVec 1 := Scalar.cmpi .ne v1163 c0_i32_689
  let v1165 : BitVec 1 := Scalar.andi v1162 v1164
  let v1151 : BitVec 32 := Scalar.divsi v1140 c4_i32_684
  let c1_i32_690 : BitVec 32 := 1#32
  let v1166 : BitVec 32 := Scalar.subi v1151 c1_i32_690
  let v1167 : BitVec 32 := Scalar.select v1165 v1166 v1151
  let c4_i32_691 : BitVec 32 := 4#32
  let c0_i32_692 : BitVec 32 := 0#32
  let v1168 : BitVec 1 := Scalar.cmpi .eq c4_i32_691 c0_i32_692
  let c1_i32_693 : BitVec 32 := 1#32
  let v1169 : BitVec 32 := Scalar.select v1168 c1_i32_693 c4_i32_691
  let v1170 : BitVec 32 := Scalar.remsi v1140 v1169
  let c0_i32_695 : BitVec 32 := 0#32
  let v1172 : BitVec 1 := Scalar.cmpi .slt v1170 c0_i32_695
  let c0_i32_696 : BitVec 32 := 0#32
  let v1173 : BitVec 1 := Scalar.cmpi .slt v1169 c0_i32_696
  let v1174 : BitVec 1 := Scalar.xori v1172 v1173
  let c0_i32_694 : BitVec 32 := 0#32
  let v1171 : BitVec 1 := Scalar.cmpi .ne v1170 c0_i32_694
  let v1175 : BitVec 1 := Scalar.andi v1174 v1171
  let v1176 : BitVec 32 := Scalar.addi v1170 v1169
  let v1177 : BitVec 32 := Scalar.select v1175 v1176 v1170
  let c0_i32_702 : BitVec 32 := 0#32
  let c64_i32_678 : BitVec 32 := 64#32
  let c0_i32_679 : BitVec 32 := 0#32
  let v1141 : BitVec 1 := Scalar.cmpi .eq c64_i32_678 c0_i32_679
  let c1_i32_680 : BitVec 32 := 1#32
  let v1142 : BitVec 32 := Scalar.select v1141 c1_i32_680 c64_i32_678
  let v1143 : BitVec 32 := Scalar.remsi v1049 v1142
  let c0_i32_682 : BitVec 32 := 0#32
  let v1145 : BitVec 1 := Scalar.cmpi .slt v1143 c0_i32_682
  let c0_i32_683 : BitVec 32 := 0#32
  let v1146 : BitVec 1 := Scalar.cmpi .slt v1142 c0_i32_683
  let v1147 : BitVec 1 := Scalar.xori v1145 v1146
  let c0_i32_681 : BitVec 32 := 0#32
  let v1144 : BitVec 1 := Scalar.cmpi .ne v1143 c0_i32_681
  let v1148 : BitVec 1 := Scalar.andi v1147 v1144
  let v1149 : BitVec 32 := Scalar.addi v1143 v1142
  let v1150 : BitVec 32 := Scalar.select v1148 v1149 v1143
  let c512_i32_697 : BitVec 32 := 512#32
  let v1178 : BitVec 32 := Scalar.muli v1150 c512_i32_697
  ![v1167.toNat, v1177.toNat, 0, v1178.toNat]
def k0_cond8 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c3_i32_623 : BitVec 32 := 3#32
  let v1049 : BitVec 32 := Scalar.addi v616 c3_i32_623
  let c8_i32_706 : BitVec 32 := 8#32
  let v1189 : BitVec 32 := Scalar.addi v1049 c8_i32_706
  let c128_i32_707 : BitVec 32 := 128#32
  let v1190 : BitVec 1 := Scalar.cmpi .slt v1189 c128_i32_707
  let v1191 : BitVec 32 := Scalar.extui v1190
  let c0_i32_708 : BitVec 32 := 0#32
  let v1192 : BitVec 1 := Scalar.cmpi .ne v1191 c0_i32_708
  v1192

def k0_off32 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c3_i32_623 : BitVec 32 := 3#32
  let v1049 : BitVec 32 := Scalar.addi v616 c3_i32_623
  let c8_i32_1053 : BitVec 32 := 8#32
  let v1769 : BitVec 32 := Scalar.addi v1049 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond9 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_710 : BitVec 32 := 0#32
  let v1194 : BitVec 1 := Scalar.cmpi .sgt v616 c0_i32_710
  let v1195 : BitVec 32 := Scalar.extui v1194
  let c0_i32_711 : BitVec 32 := 0#32
  let v1196 : BitVec 1 := Scalar.cmpi .ne v1195 c0_i32_711
  v1196

def k0_off33 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c4_i32_709 : BitVec 32 := 4#32
  let v1193 : BitVec 32 := Scalar.addi v616 c4_i32_709
  let c8_i32_1053 : BitVec 32 := 8#32
  let v1769 : BitVec 32 := Scalar.subi v1193 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off34 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c4_i32_709 : BitVec 32 := 4#32
  let v1193 : BitVec 32 := Scalar.addi v616 c4_i32_709
  let c0_i32_713 : BitVec 32 := 0#32
  let v1198 : BitVec 1 := Scalar.cmpi .sgt v1193 c0_i32_713
  let v1199 : BitVec 32 := Scalar.extui v1198
  let c0_i32_714 : BitVec 32 := 0#32
  let v1200 : BitVec 1 := Scalar.cmpi .slt v1193 c0_i32_714
  let v1201 : BitVec 32 := Scalar.extui v1200
  let v1202 : BitVec 32 := Scalar.subi v1199 v1201
  let c64_i32_712 : BitVec 32 := 64#32
  let c0_i32_715 : BitVec 32 := 0#32
  let v1203 : BitVec 1 := Scalar.cmpi .sgt c64_i32_712 c0_i32_715
  let v1204 : BitVec 32 := Scalar.extui v1203
  let c0_i32_716 : BitVec 32 := 0#32
  let v1205 : BitVec 1 := Scalar.cmpi .slt c64_i32_712 c0_i32_716
  let v1206 : BitVec 32 := Scalar.extui v1205
  let v1207 : BitVec 32 := Scalar.subi v1204 v1206
  let v1208 : BitVec 1 := Scalar.cmpi .ne v1202 v1207
  let v1209 : BitVec 32 := Scalar.remsi v1193 c64_i32_712
  let c0_i32_717 : BitVec 32 := 0#32
  let v1210 : BitVec 1 := Scalar.cmpi .ne v1209 c0_i32_717
  let v1211 : BitVec 1 := Scalar.andi v1208 v1210
  let v1197 : BitVec 32 := Scalar.divsi v1193 c64_i32_712
  let c1_i32_718 : BitVec 32 := 1#32
  let v1212 : BitVec 32 := Scalar.subi v1197 c1_i32_718
  let v1213 : BitVec 32 := Scalar.select v1211 v1212 v1197
  let v1214 : BitVec 32 := Scalar.addi v2 v1213
  let c0_i32_726 : BitVec 32 := 0#32
  let v1226 : BitVec 1 := Scalar.cmpi .sgt v1214 c0_i32_726
  let v1227 : BitVec 32 := Scalar.extui v1226
  let c0_i32_727 : BitVec 32 := 0#32
  let v1228 : BitVec 1 := Scalar.cmpi .slt v1214 c0_i32_727
  let v1229 : BitVec 32 := Scalar.extui v1228
  let v1230 : BitVec 32 := Scalar.subi v1227 v1229
  let c4_i32_725 : BitVec 32 := 4#32
  let c0_i32_728 : BitVec 32 := 0#32
  let v1231 : BitVec 1 := Scalar.cmpi .sgt c4_i32_725 c0_i32_728
  let v1232 : BitVec 32 := Scalar.extui v1231
  let c0_i32_729 : BitVec 32 := 0#32
  let v1233 : BitVec 1 := Scalar.cmpi .slt c4_i32_725 c0_i32_729
  let v1234 : BitVec 32 := Scalar.extui v1233
  let v1235 : BitVec 32 := Scalar.subi v1232 v1234
  let v1236 : BitVec 1 := Scalar.cmpi .ne v1230 v1235
  let v1237 : BitVec 32 := Scalar.remsi v1214 c4_i32_725
  let c0_i32_730 : BitVec 32 := 0#32
  let v1238 : BitVec 1 := Scalar.cmpi .ne v1237 c0_i32_730
  let v1239 : BitVec 1 := Scalar.andi v1236 v1238
  let v1225 : BitVec 32 := Scalar.divsi v1214 c4_i32_725
  let c1_i32_731 : BitVec 32 := 1#32
  let v1240 : BitVec 32 := Scalar.subi v1225 c1_i32_731
  let v1241 : BitVec 32 := Scalar.select v1239 v1240 v1225
  let c4_i32_732 : BitVec 32 := 4#32
  let c0_i32_733 : BitVec 32 := 0#32
  let v1242 : BitVec 1 := Scalar.cmpi .eq c4_i32_732 c0_i32_733
  let c1_i32_734 : BitVec 32 := 1#32
  let v1243 : BitVec 32 := Scalar.select v1242 c1_i32_734 c4_i32_732
  let v1244 : BitVec 32 := Scalar.remsi v1214 v1243
  let c0_i32_736 : BitVec 32 := 0#32
  let v1246 : BitVec 1 := Scalar.cmpi .slt v1244 c0_i32_736
  let c0_i32_737 : BitVec 32 := 0#32
  let v1247 : BitVec 1 := Scalar.cmpi .slt v1243 c0_i32_737
  let v1248 : BitVec 1 := Scalar.xori v1246 v1247
  let c0_i32_735 : BitVec 32 := 0#32
  let v1245 : BitVec 1 := Scalar.cmpi .ne v1244 c0_i32_735
  let v1249 : BitVec 1 := Scalar.andi v1248 v1245
  let v1250 : BitVec 32 := Scalar.addi v1244 v1243
  let v1251 : BitVec 32 := Scalar.select v1249 v1250 v1244
  let c0_i32_743 : BitVec 32 := 0#32
  let c64_i32_719 : BitVec 32 := 64#32
  let c0_i32_720 : BitVec 32 := 0#32
  let v1215 : BitVec 1 := Scalar.cmpi .eq c64_i32_719 c0_i32_720
  let c1_i32_721 : BitVec 32 := 1#32
  let v1216 : BitVec 32 := Scalar.select v1215 c1_i32_721 c64_i32_719
  let v1217 : BitVec 32 := Scalar.remsi v1193 v1216
  let c0_i32_723 : BitVec 32 := 0#32
  let v1219 : BitVec 1 := Scalar.cmpi .slt v1217 c0_i32_723
  let c0_i32_724 : BitVec 32 := 0#32
  let v1220 : BitVec 1 := Scalar.cmpi .slt v1216 c0_i32_724
  let v1221 : BitVec 1 := Scalar.xori v1219 v1220
  let c0_i32_722 : BitVec 32 := 0#32
  let v1218 : BitVec 1 := Scalar.cmpi .ne v1217 c0_i32_722
  let v1222 : BitVec 1 := Scalar.andi v1221 v1218
  let v1223 : BitVec 32 := Scalar.addi v1217 v1216
  let v1224 : BitVec 32 := Scalar.select v1222 v1223 v1217
  let c4096_i32_738 : BitVec 32 := 4096#32
  let v1252 : BitVec 32 := Scalar.muli v1224 c4096_i32_738
  ![v1241.toNat, v1251.toNat, 0, v1252.toNat]
@[reducible] def k0_t10_loop : Scf.Loop 32 :=
  let c0_i32_748 : BitVec 32 := 0#32
  let c32_i32_749 : BitVec 32 := 32#32
  let v1264 : BitVec 32 := Scalar.addi c0_i32_748 c32_i32_749
  let c1_i32_750 : BitVec 32 := 1#32
  ⟨c0_i32_748, v1264, c1_i32_750⟩

def k0_chk9 (v1263 : IVec S16 32) (v1773 : IVec S16 32) : Prop :=
  (∀ a x, ((![v1263, v1773] : Fin 2 → IVec S16 32) a x).toNat < S2x4096.size a)
theorem k0_idx9_inb : ∀ (v1263 : IVec S16 32) (v1773 : IVec S16 32) (k0_hw9 : k0_chk9 v1263 v1773), ∀ a x, ((![v1263, v1773] : Fin 2 → IVec S16 32) a x).toNat < S2x4096.size a := fun v1263 v1773 k0_hw9 => k0_hw9
def k0_off35 (k0_t10 : Fin k0_t10_loop.trips) : Fin 3 → Nat :=
  let c4_i32_1060 : BitVec 32 := 4#32
  let v1778 : Index := Scalar.indexCast c4_i32_1060
  let c0_i32_1061 : BitVec 32 := 0#32
  let v1779 : Index := Scalar.indexCast c0_i32_1061
  let c0_i32_1054 : BitVec 32 := 0#32
  let c0_i32_748 : BitVec 32 := 0#32
  let c1_i32_750 : BitVec 32 := 1#32
  let arg9 : BitVec 32 := Scf.iv c0_i32_748 c1_i32_750 k0_t10
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![4, 0, v1780.toNat]
@[reducible] def k0_t11_loop : Scf.Loop 32 :=
  let c0_i32_753 : BitVec 32 := 0#32
  let c32_i32_754 : BitVec 32 := 32#32
  let v1266 : BitVec 32 := Scalar.addi c0_i32_753 c32_i32_754
  let c1_i32_755 : BitVec 32 := 1#32
  ⟨c0_i32_753, v1266, c1_i32_755⟩

def k0_chk10 (v1265 : IVec S16 32) (v1773 : IVec S16 32) : Prop :=
  (∀ a x, ((![v1265, v1773] : Fin 2 → IVec S16 32) a x).toNat < S2x4096.size a)
theorem k0_idx10_inb : ∀ (v1265 : IVec S16 32) (v1773 : IVec S16 32) (k0_hw10 : k0_chk10 v1265 v1773), ∀ a x, ((![v1265, v1773] : Fin 2 → IVec S16 32) a x).toNat < S2x4096.size a := fun v1265 v1773 k0_hw10 => k0_hw10
def k0_off36 (k0_t11 : Fin k0_t11_loop.trips) : Fin 3 → Nat :=
  let c4_i32_1060 : BitVec 32 := 4#32
  let v1778 : Index := Scalar.indexCast c4_i32_1060
  let c1_i32_1061 : BitVec 32 := 1#32
  let v1779 : Index := Scalar.indexCast c1_i32_1061
  let c0_i32_1054 : BitVec 32 := 0#32
  let c0_i32_753 : BitVec 32 := 0#32
  let c1_i32_755 : BitVec 32 := 1#32
  let arg9 : BitVec 32 := Scf.iv c0_i32_753 c1_i32_755 k0_t11
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![4, 1, v1780.toNat]
def k0_off37 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c4_i32_709 : BitVec 32 := 4#32
  let v1193 : BitVec 32 := Scalar.addi v616 c4_i32_709
  let c0_i32_758 : BitVec 32 := 0#32
  let v1268 : BitVec 1 := Scalar.cmpi .sgt v1193 c0_i32_758
  let v1269 : BitVec 32 := Scalar.extui v1268
  let c0_i32_759 : BitVec 32 := 0#32
  let v1270 : BitVec 1 := Scalar.cmpi .slt v1193 c0_i32_759
  let v1271 : BitVec 32 := Scalar.extui v1270
  let v1272 : BitVec 32 := Scalar.subi v1269 v1271
  let c64_i32_757 : BitVec 32 := 64#32
  let c0_i32_760 : BitVec 32 := 0#32
  let v1273 : BitVec 1 := Scalar.cmpi .sgt c64_i32_757 c0_i32_760
  let v1274 : BitVec 32 := Scalar.extui v1273
  let c0_i32_761 : BitVec 32 := 0#32
  let v1275 : BitVec 1 := Scalar.cmpi .slt c64_i32_757 c0_i32_761
  let v1276 : BitVec 32 := Scalar.extui v1275
  let v1277 : BitVec 32 := Scalar.subi v1274 v1276
  let v1278 : BitVec 1 := Scalar.cmpi .ne v1272 v1277
  let v1279 : BitVec 32 := Scalar.remsi v1193 c64_i32_757
  let c0_i32_762 : BitVec 32 := 0#32
  let v1280 : BitVec 1 := Scalar.cmpi .ne v1279 c0_i32_762
  let v1281 : BitVec 1 := Scalar.andi v1278 v1280
  let v1267 : BitVec 32 := Scalar.divsi v1193 c64_i32_757
  let c1_i32_763 : BitVec 32 := 1#32
  let v1282 : BitVec 32 := Scalar.subi v1267 c1_i32_763
  let v1283 : BitVec 32 := Scalar.select v1281 v1282 v1267
  let v1284 : BitVec 32 := Scalar.addi v2 v1283
  let c0_i32_771 : BitVec 32 := 0#32
  let v1296 : BitVec 1 := Scalar.cmpi .sgt v1284 c0_i32_771
  let v1297 : BitVec 32 := Scalar.extui v1296
  let c0_i32_772 : BitVec 32 := 0#32
  let v1298 : BitVec 1 := Scalar.cmpi .slt v1284 c0_i32_772
  let v1299 : BitVec 32 := Scalar.extui v1298
  let v1300 : BitVec 32 := Scalar.subi v1297 v1299
  let c4_i32_770 : BitVec 32 := 4#32
  let c0_i32_773 : BitVec 32 := 0#32
  let v1301 : BitVec 1 := Scalar.cmpi .sgt c4_i32_770 c0_i32_773
  let v1302 : BitVec 32 := Scalar.extui v1301
  let c0_i32_774 : BitVec 32 := 0#32
  let v1303 : BitVec 1 := Scalar.cmpi .slt c4_i32_770 c0_i32_774
  let v1304 : BitVec 32 := Scalar.extui v1303
  let v1305 : BitVec 32 := Scalar.subi v1302 v1304
  let v1306 : BitVec 1 := Scalar.cmpi .ne v1300 v1305
  let v1307 : BitVec 32 := Scalar.remsi v1284 c4_i32_770
  let c0_i32_775 : BitVec 32 := 0#32
  let v1308 : BitVec 1 := Scalar.cmpi .ne v1307 c0_i32_775
  let v1309 : BitVec 1 := Scalar.andi v1306 v1308
  let v1295 : BitVec 32 := Scalar.divsi v1284 c4_i32_770
  let c1_i32_776 : BitVec 32 := 1#32
  let v1310 : BitVec 32 := Scalar.subi v1295 c1_i32_776
  let v1311 : BitVec 32 := Scalar.select v1309 v1310 v1295
  let c4_i32_777 : BitVec 32 := 4#32
  let c0_i32_778 : BitVec 32 := 0#32
  let v1312 : BitVec 1 := Scalar.cmpi .eq c4_i32_777 c0_i32_778
  let c1_i32_779 : BitVec 32 := 1#32
  let v1313 : BitVec 32 := Scalar.select v1312 c1_i32_779 c4_i32_777
  let v1314 : BitVec 32 := Scalar.remsi v1284 v1313
  let c0_i32_781 : BitVec 32 := 0#32
  let v1316 : BitVec 1 := Scalar.cmpi .slt v1314 c0_i32_781
  let c0_i32_782 : BitVec 32 := 0#32
  let v1317 : BitVec 1 := Scalar.cmpi .slt v1313 c0_i32_782
  let v1318 : BitVec 1 := Scalar.xori v1316 v1317
  let c0_i32_780 : BitVec 32 := 0#32
  let v1315 : BitVec 1 := Scalar.cmpi .ne v1314 c0_i32_780
  let v1319 : BitVec 1 := Scalar.andi v1318 v1315
  let v1320 : BitVec 32 := Scalar.addi v1314 v1313
  let v1321 : BitVec 32 := Scalar.select v1319 v1320 v1314
  let c0_i32_788 : BitVec 32 := 0#32
  let c64_i32_764 : BitVec 32 := 64#32
  let c0_i32_765 : BitVec 32 := 0#32
  let v1285 : BitVec 1 := Scalar.cmpi .eq c64_i32_764 c0_i32_765
  let c1_i32_766 : BitVec 32 := 1#32
  let v1286 : BitVec 32 := Scalar.select v1285 c1_i32_766 c64_i32_764
  let v1287 : BitVec 32 := Scalar.remsi v1193 v1286
  let c0_i32_768 : BitVec 32 := 0#32
  let v1289 : BitVec 1 := Scalar.cmpi .slt v1287 c0_i32_768
  let c0_i32_769 : BitVec 32 := 0#32
  let v1290 : BitVec 1 := Scalar.cmpi .slt v1286 c0_i32_769
  let v1291 : BitVec 1 := Scalar.xori v1289 v1290
  let c0_i32_767 : BitVec 32 := 0#32
  let v1288 : BitVec 1 := Scalar.cmpi .ne v1287 c0_i32_767
  let v1292 : BitVec 1 := Scalar.andi v1291 v1288
  let v1293 : BitVec 32 := Scalar.addi v1287 v1286
  let v1294 : BitVec 32 := Scalar.select v1292 v1293 v1287
  let c512_i32_783 : BitVec 32 := 512#32
  let v1322 : BitVec 32 := Scalar.muli v1294 c512_i32_783
  ![v1311.toNat, v1321.toNat, 0, v1322.toNat]
def k0_cond10 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c4_i32_709 : BitVec 32 := 4#32
  let v1193 : BitVec 32 := Scalar.addi v616 c4_i32_709
  let c8_i32_792 : BitVec 32 := 8#32
  let v1333 : BitVec 32 := Scalar.addi v1193 c8_i32_792
  let c128_i32_793 : BitVec 32 := 128#32
  let v1334 : BitVec 1 := Scalar.cmpi .slt v1333 c128_i32_793
  let v1335 : BitVec 32 := Scalar.extui v1334
  let c0_i32_794 : BitVec 32 := 0#32
  let v1336 : BitVec 1 := Scalar.cmpi .ne v1335 c0_i32_794
  v1336

def k0_off38 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c4_i32_709 : BitVec 32 := 4#32
  let v1193 : BitVec 32 := Scalar.addi v616 c4_i32_709
  let c8_i32_1053 : BitVec 32 := 8#32
  let v1769 : BitVec 32 := Scalar.addi v1193 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond11 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_796 : BitVec 32 := 0#32
  let v1338 : BitVec 1 := Scalar.cmpi .sgt v616 c0_i32_796
  let v1339 : BitVec 32 := Scalar.extui v1338
  let c0_i32_797 : BitVec 32 := 0#32
  let v1340 : BitVec 1 := Scalar.cmpi .ne v1339 c0_i32_797
  v1340

def k0_off39 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c5_i32_795 : BitVec 32 := 5#32
  let v1337 : BitVec 32 := Scalar.addi v616 c5_i32_795
  let c8_i32_1053 : BitVec 32 := 8#32
  let v1769 : BitVec 32 := Scalar.subi v1337 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off40 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c5_i32_795 : BitVec 32 := 5#32
  let v1337 : BitVec 32 := Scalar.addi v616 c5_i32_795
  let c0_i32_799 : BitVec 32 := 0#32
  let v1342 : BitVec 1 := Scalar.cmpi .sgt v1337 c0_i32_799
  let v1343 : BitVec 32 := Scalar.extui v1342
  let c0_i32_800 : BitVec 32 := 0#32
  let v1344 : BitVec 1 := Scalar.cmpi .slt v1337 c0_i32_800
  let v1345 : BitVec 32 := Scalar.extui v1344
  let v1346 : BitVec 32 := Scalar.subi v1343 v1345
  let c64_i32_798 : BitVec 32 := 64#32
  let c0_i32_801 : BitVec 32 := 0#32
  let v1347 : BitVec 1 := Scalar.cmpi .sgt c64_i32_798 c0_i32_801
  let v1348 : BitVec 32 := Scalar.extui v1347
  let c0_i32_802 : BitVec 32 := 0#32
  let v1349 : BitVec 1 := Scalar.cmpi .slt c64_i32_798 c0_i32_802
  let v1350 : BitVec 32 := Scalar.extui v1349
  let v1351 : BitVec 32 := Scalar.subi v1348 v1350
  let v1352 : BitVec 1 := Scalar.cmpi .ne v1346 v1351
  let v1353 : BitVec 32 := Scalar.remsi v1337 c64_i32_798
  let c0_i32_803 : BitVec 32 := 0#32
  let v1354 : BitVec 1 := Scalar.cmpi .ne v1353 c0_i32_803
  let v1355 : BitVec 1 := Scalar.andi v1352 v1354
  let v1341 : BitVec 32 := Scalar.divsi v1337 c64_i32_798
  let c1_i32_804 : BitVec 32 := 1#32
  let v1356 : BitVec 32 := Scalar.subi v1341 c1_i32_804
  let v1357 : BitVec 32 := Scalar.select v1355 v1356 v1341
  let v1358 : BitVec 32 := Scalar.addi v2 v1357
  let c0_i32_812 : BitVec 32 := 0#32
  let v1370 : BitVec 1 := Scalar.cmpi .sgt v1358 c0_i32_812
  let v1371 : BitVec 32 := Scalar.extui v1370
  let c0_i32_813 : BitVec 32 := 0#32
  let v1372 : BitVec 1 := Scalar.cmpi .slt v1358 c0_i32_813
  let v1373 : BitVec 32 := Scalar.extui v1372
  let v1374 : BitVec 32 := Scalar.subi v1371 v1373
  let c4_i32_811 : BitVec 32 := 4#32
  let c0_i32_814 : BitVec 32 := 0#32
  let v1375 : BitVec 1 := Scalar.cmpi .sgt c4_i32_811 c0_i32_814
  let v1376 : BitVec 32 := Scalar.extui v1375
  let c0_i32_815 : BitVec 32 := 0#32
  let v1377 : BitVec 1 := Scalar.cmpi .slt c4_i32_811 c0_i32_815
  let v1378 : BitVec 32 := Scalar.extui v1377
  let v1379 : BitVec 32 := Scalar.subi v1376 v1378
  let v1380 : BitVec 1 := Scalar.cmpi .ne v1374 v1379
  let v1381 : BitVec 32 := Scalar.remsi v1358 c4_i32_811
  let c0_i32_816 : BitVec 32 := 0#32
  let v1382 : BitVec 1 := Scalar.cmpi .ne v1381 c0_i32_816
  let v1383 : BitVec 1 := Scalar.andi v1380 v1382
  let v1369 : BitVec 32 := Scalar.divsi v1358 c4_i32_811
  let c1_i32_817 : BitVec 32 := 1#32
  let v1384 : BitVec 32 := Scalar.subi v1369 c1_i32_817
  let v1385 : BitVec 32 := Scalar.select v1383 v1384 v1369
  let c4_i32_818 : BitVec 32 := 4#32
  let c0_i32_819 : BitVec 32 := 0#32
  let v1386 : BitVec 1 := Scalar.cmpi .eq c4_i32_818 c0_i32_819
  let c1_i32_820 : BitVec 32 := 1#32
  let v1387 : BitVec 32 := Scalar.select v1386 c1_i32_820 c4_i32_818
  let v1388 : BitVec 32 := Scalar.remsi v1358 v1387
  let c0_i32_822 : BitVec 32 := 0#32
  let v1390 : BitVec 1 := Scalar.cmpi .slt v1388 c0_i32_822
  let c0_i32_823 : BitVec 32 := 0#32
  let v1391 : BitVec 1 := Scalar.cmpi .slt v1387 c0_i32_823
  let v1392 : BitVec 1 := Scalar.xori v1390 v1391
  let c0_i32_821 : BitVec 32 := 0#32
  let v1389 : BitVec 1 := Scalar.cmpi .ne v1388 c0_i32_821
  let v1393 : BitVec 1 := Scalar.andi v1392 v1389
  let v1394 : BitVec 32 := Scalar.addi v1388 v1387
  let v1395 : BitVec 32 := Scalar.select v1393 v1394 v1388
  let c0_i32_829 : BitVec 32 := 0#32
  let c64_i32_805 : BitVec 32 := 64#32
  let c0_i32_806 : BitVec 32 := 0#32
  let v1359 : BitVec 1 := Scalar.cmpi .eq c64_i32_805 c0_i32_806
  let c1_i32_807 : BitVec 32 := 1#32
  let v1360 : BitVec 32 := Scalar.select v1359 c1_i32_807 c64_i32_805
  let v1361 : BitVec 32 := Scalar.remsi v1337 v1360
  let c0_i32_809 : BitVec 32 := 0#32
  let v1363 : BitVec 1 := Scalar.cmpi .slt v1361 c0_i32_809
  let c0_i32_810 : BitVec 32 := 0#32
  let v1364 : BitVec 1 := Scalar.cmpi .slt v1360 c0_i32_810
  let v1365 : BitVec 1 := Scalar.xori v1363 v1364
  let c0_i32_808 : BitVec 32 := 0#32
  let v1362 : BitVec 1 := Scalar.cmpi .ne v1361 c0_i32_808
  let v1366 : BitVec 1 := Scalar.andi v1365 v1362
  let v1367 : BitVec 32 := Scalar.addi v1361 v1360
  let v1368 : BitVec 32 := Scalar.select v1366 v1367 v1361
  let c4096_i32_824 : BitVec 32 := 4096#32
  let v1396 : BitVec 32 := Scalar.muli v1368 c4096_i32_824
  ![v1385.toNat, v1395.toNat, 0, v1396.toNat]
@[reducible] def k0_t12_loop : Scf.Loop 32 :=
  let c0_i32_834 : BitVec 32 := 0#32
  let c32_i32_835 : BitVec 32 := 32#32
  let v1408 : BitVec 32 := Scalar.addi c0_i32_834 c32_i32_835
  let c1_i32_836 : BitVec 32 := 1#32
  ⟨c0_i32_834, v1408, c1_i32_836⟩

def k0_chk11 (v1407 : IVec S16 32) (v1773 : IVec S16 32) : Prop :=
  (∀ a x, ((![v1407, v1773] : Fin 2 → IVec S16 32) a x).toNat < S2x4096.size a)
theorem k0_idx11_inb : ∀ (v1407 : IVec S16 32) (v1773 : IVec S16 32) (k0_hw11 : k0_chk11 v1407 v1773), ∀ a x, ((![v1407, v1773] : Fin 2 → IVec S16 32) a x).toNat < S2x4096.size a := fun v1407 v1773 k0_hw11 => k0_hw11
def k0_off41 (k0_t12 : Fin k0_t12_loop.trips) : Fin 3 → Nat :=
  let c5_i32_1060 : BitVec 32 := 5#32
  let v1778 : Index := Scalar.indexCast c5_i32_1060
  let c0_i32_1061 : BitVec 32 := 0#32
  let v1779 : Index := Scalar.indexCast c0_i32_1061
  let c0_i32_1054 : BitVec 32 := 0#32
  let c0_i32_834 : BitVec 32 := 0#32
  let c1_i32_836 : BitVec 32 := 1#32
  let arg9 : BitVec 32 := Scf.iv c0_i32_834 c1_i32_836 k0_t12
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![5, 0, v1780.toNat]
@[reducible] def k0_t13_loop : Scf.Loop 32 :=
  let c0_i32_839 : BitVec 32 := 0#32
  let c32_i32_840 : BitVec 32 := 32#32
  let v1410 : BitVec 32 := Scalar.addi c0_i32_839 c32_i32_840
  let c1_i32_841 : BitVec 32 := 1#32
  ⟨c0_i32_839, v1410, c1_i32_841⟩

def k0_chk12 (v1409 : IVec S16 32) (v1773 : IVec S16 32) : Prop :=
  (∀ a x, ((![v1409, v1773] : Fin 2 → IVec S16 32) a x).toNat < S2x4096.size a)
theorem k0_idx12_inb : ∀ (v1409 : IVec S16 32) (v1773 : IVec S16 32) (k0_hw12 : k0_chk12 v1409 v1773), ∀ a x, ((![v1409, v1773] : Fin 2 → IVec S16 32) a x).toNat < S2x4096.size a := fun v1409 v1773 k0_hw12 => k0_hw12
def k0_off42 (k0_t13 : Fin k0_t13_loop.trips) : Fin 3 → Nat :=
  let c5_i32_1060 : BitVec 32 := 5#32
  let v1778 : Index := Scalar.indexCast c5_i32_1060
  let c1_i32_1061 : BitVec 32 := 1#32
  let v1779 : Index := Scalar.indexCast c1_i32_1061
  let c0_i32_1054 : BitVec 32 := 0#32
  let c0_i32_839 : BitVec 32 := 0#32
  let c1_i32_841 : BitVec 32 := 1#32
  let arg9 : BitVec 32 := Scf.iv c0_i32_839 c1_i32_841 k0_t13
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![5, 1, v1780.toNat]
def k0_off43 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c5_i32_795 : BitVec 32 := 5#32
  let v1337 : BitVec 32 := Scalar.addi v616 c5_i32_795
  let c0_i32_844 : BitVec 32 := 0#32
  let v1412 : BitVec 1 := Scalar.cmpi .sgt v1337 c0_i32_844
  let v1413 : BitVec 32 := Scalar.extui v1412
  let c0_i32_845 : BitVec 32 := 0#32
  let v1414 : BitVec 1 := Scalar.cmpi .slt v1337 c0_i32_845
  let v1415 : BitVec 32 := Scalar.extui v1414
  let v1416 : BitVec 32 := Scalar.subi v1413 v1415
  let c64_i32_843 : BitVec 32 := 64#32
  let c0_i32_846 : BitVec 32 := 0#32
  let v1417 : BitVec 1 := Scalar.cmpi .sgt c64_i32_843 c0_i32_846
  let v1418 : BitVec 32 := Scalar.extui v1417
  let c0_i32_847 : BitVec 32 := 0#32
  let v1419 : BitVec 1 := Scalar.cmpi .slt c64_i32_843 c0_i32_847
  let v1420 : BitVec 32 := Scalar.extui v1419
  let v1421 : BitVec 32 := Scalar.subi v1418 v1420
  let v1422 : BitVec 1 := Scalar.cmpi .ne v1416 v1421
  let v1423 : BitVec 32 := Scalar.remsi v1337 c64_i32_843
  let c0_i32_848 : BitVec 32 := 0#32
  let v1424 : BitVec 1 := Scalar.cmpi .ne v1423 c0_i32_848
  let v1425 : BitVec 1 := Scalar.andi v1422 v1424
  let v1411 : BitVec 32 := Scalar.divsi v1337 c64_i32_843
  let c1_i32_849 : BitVec 32 := 1#32
  let v1426 : BitVec 32 := Scalar.subi v1411 c1_i32_849
  let v1427 : BitVec 32 := Scalar.select v1425 v1426 v1411
  let v1428 : BitVec 32 := Scalar.addi v2 v1427
  let c0_i32_857 : BitVec 32 := 0#32
  let v1440 : BitVec 1 := Scalar.cmpi .sgt v1428 c0_i32_857
  let v1441 : BitVec 32 := Scalar.extui v1440
  let c0_i32_858 : BitVec 32 := 0#32
  let v1442 : BitVec 1 := Scalar.cmpi .slt v1428 c0_i32_858
  let v1443 : BitVec 32 := Scalar.extui v1442
  let v1444 : BitVec 32 := Scalar.subi v1441 v1443
  let c4_i32_856 : BitVec 32 := 4#32
  let c0_i32_859 : BitVec 32 := 0#32
  let v1445 : BitVec 1 := Scalar.cmpi .sgt c4_i32_856 c0_i32_859
  let v1446 : BitVec 32 := Scalar.extui v1445
  let c0_i32_860 : BitVec 32 := 0#32
  let v1447 : BitVec 1 := Scalar.cmpi .slt c4_i32_856 c0_i32_860
  let v1448 : BitVec 32 := Scalar.extui v1447
  let v1449 : BitVec 32 := Scalar.subi v1446 v1448
  let v1450 : BitVec 1 := Scalar.cmpi .ne v1444 v1449
  let v1451 : BitVec 32 := Scalar.remsi v1428 c4_i32_856
  let c0_i32_861 : BitVec 32 := 0#32
  let v1452 : BitVec 1 := Scalar.cmpi .ne v1451 c0_i32_861
  let v1453 : BitVec 1 := Scalar.andi v1450 v1452
  let v1439 : BitVec 32 := Scalar.divsi v1428 c4_i32_856
  let c1_i32_862 : BitVec 32 := 1#32
  let v1454 : BitVec 32 := Scalar.subi v1439 c1_i32_862
  let v1455 : BitVec 32 := Scalar.select v1453 v1454 v1439
  let c4_i32_863 : BitVec 32 := 4#32
  let c0_i32_864 : BitVec 32 := 0#32
  let v1456 : BitVec 1 := Scalar.cmpi .eq c4_i32_863 c0_i32_864
  let c1_i32_865 : BitVec 32 := 1#32
  let v1457 : BitVec 32 := Scalar.select v1456 c1_i32_865 c4_i32_863
  let v1458 : BitVec 32 := Scalar.remsi v1428 v1457
  let c0_i32_867 : BitVec 32 := 0#32
  let v1460 : BitVec 1 := Scalar.cmpi .slt v1458 c0_i32_867
  let c0_i32_868 : BitVec 32 := 0#32
  let v1461 : BitVec 1 := Scalar.cmpi .slt v1457 c0_i32_868
  let v1462 : BitVec 1 := Scalar.xori v1460 v1461
  let c0_i32_866 : BitVec 32 := 0#32
  let v1459 : BitVec 1 := Scalar.cmpi .ne v1458 c0_i32_866
  let v1463 : BitVec 1 := Scalar.andi v1462 v1459
  let v1464 : BitVec 32 := Scalar.addi v1458 v1457
  let v1465 : BitVec 32 := Scalar.select v1463 v1464 v1458
  let c0_i32_874 : BitVec 32 := 0#32
  let c64_i32_850 : BitVec 32 := 64#32
  let c0_i32_851 : BitVec 32 := 0#32
  let v1429 : BitVec 1 := Scalar.cmpi .eq c64_i32_850 c0_i32_851
  let c1_i32_852 : BitVec 32 := 1#32
  let v1430 : BitVec 32 := Scalar.select v1429 c1_i32_852 c64_i32_850
  let v1431 : BitVec 32 := Scalar.remsi v1337 v1430
  let c0_i32_854 : BitVec 32 := 0#32
  let v1433 : BitVec 1 := Scalar.cmpi .slt v1431 c0_i32_854
  let c0_i32_855 : BitVec 32 := 0#32
  let v1434 : BitVec 1 := Scalar.cmpi .slt v1430 c0_i32_855
  let v1435 : BitVec 1 := Scalar.xori v1433 v1434
  let c0_i32_853 : BitVec 32 := 0#32
  let v1432 : BitVec 1 := Scalar.cmpi .ne v1431 c0_i32_853
  let v1436 : BitVec 1 := Scalar.andi v1435 v1432
  let v1437 : BitVec 32 := Scalar.addi v1431 v1430
  let v1438 : BitVec 32 := Scalar.select v1436 v1437 v1431
  let c512_i32_869 : BitVec 32 := 512#32
  let v1466 : BitVec 32 := Scalar.muli v1438 c512_i32_869
  ![v1455.toNat, v1465.toNat, 0, v1466.toNat]
def k0_cond12 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c5_i32_795 : BitVec 32 := 5#32
  let v1337 : BitVec 32 := Scalar.addi v616 c5_i32_795
  let c8_i32_878 : BitVec 32 := 8#32
  let v1477 : BitVec 32 := Scalar.addi v1337 c8_i32_878
  let c128_i32_879 : BitVec 32 := 128#32
  let v1478 : BitVec 1 := Scalar.cmpi .slt v1477 c128_i32_879
  let v1479 : BitVec 32 := Scalar.extui v1478
  let c0_i32_880 : BitVec 32 := 0#32
  let v1480 : BitVec 1 := Scalar.cmpi .ne v1479 c0_i32_880
  v1480

def k0_off44 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c5_i32_795 : BitVec 32 := 5#32
  let v1337 : BitVec 32 := Scalar.addi v616 c5_i32_795
  let c8_i32_1053 : BitVec 32 := 8#32
  let v1769 : BitVec 32 := Scalar.addi v1337 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond13 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_882 : BitVec 32 := 0#32
  let v1482 : BitVec 1 := Scalar.cmpi .sgt v616 c0_i32_882
  let v1483 : BitVec 32 := Scalar.extui v1482
  let c0_i32_883 : BitVec 32 := 0#32
  let v1484 : BitVec 1 := Scalar.cmpi .ne v1483 c0_i32_883
  v1484

def k0_off45 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c6_i32_881 : BitVec 32 := 6#32
  let v1481 : BitVec 32 := Scalar.addi v616 c6_i32_881
  let c8_i32_1053 : BitVec 32 := 8#32
  let v1769 : BitVec 32 := Scalar.subi v1481 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off46 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c6_i32_881 : BitVec 32 := 6#32
  let v1481 : BitVec 32 := Scalar.addi v616 c6_i32_881
  let c0_i32_885 : BitVec 32 := 0#32
  let v1486 : BitVec 1 := Scalar.cmpi .sgt v1481 c0_i32_885
  let v1487 : BitVec 32 := Scalar.extui v1486
  let c0_i32_886 : BitVec 32 := 0#32
  let v1488 : BitVec 1 := Scalar.cmpi .slt v1481 c0_i32_886
  let v1489 : BitVec 32 := Scalar.extui v1488
  let v1490 : BitVec 32 := Scalar.subi v1487 v1489
  let c64_i32_884 : BitVec 32 := 64#32
  let c0_i32_887 : BitVec 32 := 0#32
  let v1491 : BitVec 1 := Scalar.cmpi .sgt c64_i32_884 c0_i32_887
  let v1492 : BitVec 32 := Scalar.extui v1491
  let c0_i32_888 : BitVec 32 := 0#32
  let v1493 : BitVec 1 := Scalar.cmpi .slt c64_i32_884 c0_i32_888
  let v1494 : BitVec 32 := Scalar.extui v1493
  let v1495 : BitVec 32 := Scalar.subi v1492 v1494
  let v1496 : BitVec 1 := Scalar.cmpi .ne v1490 v1495
  let v1497 : BitVec 32 := Scalar.remsi v1481 c64_i32_884
  let c0_i32_889 : BitVec 32 := 0#32
  let v1498 : BitVec 1 := Scalar.cmpi .ne v1497 c0_i32_889
  let v1499 : BitVec 1 := Scalar.andi v1496 v1498
  let v1485 : BitVec 32 := Scalar.divsi v1481 c64_i32_884
  let c1_i32_890 : BitVec 32 := 1#32
  let v1500 : BitVec 32 := Scalar.subi v1485 c1_i32_890
  let v1501 : BitVec 32 := Scalar.select v1499 v1500 v1485
  let v1502 : BitVec 32 := Scalar.addi v2 v1501
  let c0_i32_898 : BitVec 32 := 0#32
  let v1514 : BitVec 1 := Scalar.cmpi .sgt v1502 c0_i32_898
  let v1515 : BitVec 32 := Scalar.extui v1514
  let c0_i32_899 : BitVec 32 := 0#32
  let v1516 : BitVec 1 := Scalar.cmpi .slt v1502 c0_i32_899
  let v1517 : BitVec 32 := Scalar.extui v1516
  let v1518 : BitVec 32 := Scalar.subi v1515 v1517
  let c4_i32_897 : BitVec 32 := 4#32
  let c0_i32_900 : BitVec 32 := 0#32
  let v1519 : BitVec 1 := Scalar.cmpi .sgt c4_i32_897 c0_i32_900
  let v1520 : BitVec 32 := Scalar.extui v1519
  let c0_i32_901 : BitVec 32 := 0#32
  let v1521 : BitVec 1 := Scalar.cmpi .slt c4_i32_897 c0_i32_901
  let v1522 : BitVec 32 := Scalar.extui v1521
  let v1523 : BitVec 32 := Scalar.subi v1520 v1522
  let v1524 : BitVec 1 := Scalar.cmpi .ne v1518 v1523
  let v1525 : BitVec 32 := Scalar.remsi v1502 c4_i32_897
  let c0_i32_902 : BitVec 32 := 0#32
  let v1526 : BitVec 1 := Scalar.cmpi .ne v1525 c0_i32_902
  let v1527 : BitVec 1 := Scalar.andi v1524 v1526
  let v1513 : BitVec 32 := Scalar.divsi v1502 c4_i32_897
  let c1_i32_903 : BitVec 32 := 1#32
  let v1528 : BitVec 32 := Scalar.subi v1513 c1_i32_903
  let v1529 : BitVec 32 := Scalar.select v1527 v1528 v1513
  let c4_i32_904 : BitVec 32 := 4#32
  let c0_i32_905 : BitVec 32 := 0#32
  let v1530 : BitVec 1 := Scalar.cmpi .eq c4_i32_904 c0_i32_905
  let c1_i32_906 : BitVec 32 := 1#32
  let v1531 : BitVec 32 := Scalar.select v1530 c1_i32_906 c4_i32_904
  let v1532 : BitVec 32 := Scalar.remsi v1502 v1531
  let c0_i32_908 : BitVec 32 := 0#32
  let v1534 : BitVec 1 := Scalar.cmpi .slt v1532 c0_i32_908
  let c0_i32_909 : BitVec 32 := 0#32
  let v1535 : BitVec 1 := Scalar.cmpi .slt v1531 c0_i32_909
  let v1536 : BitVec 1 := Scalar.xori v1534 v1535
  let c0_i32_907 : BitVec 32 := 0#32
  let v1533 : BitVec 1 := Scalar.cmpi .ne v1532 c0_i32_907
  let v1537 : BitVec 1 := Scalar.andi v1536 v1533
  let v1538 : BitVec 32 := Scalar.addi v1532 v1531
  let v1539 : BitVec 32 := Scalar.select v1537 v1538 v1532
  let c0_i32_915 : BitVec 32 := 0#32
  let c64_i32_891 : BitVec 32 := 64#32
  let c0_i32_892 : BitVec 32 := 0#32
  let v1503 : BitVec 1 := Scalar.cmpi .eq c64_i32_891 c0_i32_892
  let c1_i32_893 : BitVec 32 := 1#32
  let v1504 : BitVec 32 := Scalar.select v1503 c1_i32_893 c64_i32_891
  let v1505 : BitVec 32 := Scalar.remsi v1481 v1504
  let c0_i32_895 : BitVec 32 := 0#32
  let v1507 : BitVec 1 := Scalar.cmpi .slt v1505 c0_i32_895
  let c0_i32_896 : BitVec 32 := 0#32
  let v1508 : BitVec 1 := Scalar.cmpi .slt v1504 c0_i32_896
  let v1509 : BitVec 1 := Scalar.xori v1507 v1508
  let c0_i32_894 : BitVec 32 := 0#32
  let v1506 : BitVec 1 := Scalar.cmpi .ne v1505 c0_i32_894
  let v1510 : BitVec 1 := Scalar.andi v1509 v1506
  let v1511 : BitVec 32 := Scalar.addi v1505 v1504
  let v1512 : BitVec 32 := Scalar.select v1510 v1511 v1505
  let c4096_i32_910 : BitVec 32 := 4096#32
  let v1540 : BitVec 32 := Scalar.muli v1512 c4096_i32_910
  ![v1529.toNat, v1539.toNat, 0, v1540.toNat]
@[reducible] def k0_t14_loop : Scf.Loop 32 :=
  let c0_i32_920 : BitVec 32 := 0#32
  let c32_i32_921 : BitVec 32 := 32#32
  let v1552 : BitVec 32 := Scalar.addi c0_i32_920 c32_i32_921
  let c1_i32_922 : BitVec 32 := 1#32
  ⟨c0_i32_920, v1552, c1_i32_922⟩

def k0_chk13 (v1551 : IVec S16 32) (v1773 : IVec S16 32) : Prop :=
  (∀ a x, ((![v1551, v1773] : Fin 2 → IVec S16 32) a x).toNat < S2x4096.size a)
theorem k0_idx13_inb : ∀ (v1551 : IVec S16 32) (v1773 : IVec S16 32) (k0_hw13 : k0_chk13 v1551 v1773), ∀ a x, ((![v1551, v1773] : Fin 2 → IVec S16 32) a x).toNat < S2x4096.size a := fun v1551 v1773 k0_hw13 => k0_hw13
def k0_off47 (k0_t14 : Fin k0_t14_loop.trips) : Fin 3 → Nat :=
  let c6_i32_1060 : BitVec 32 := 6#32
  let v1778 : Index := Scalar.indexCast c6_i32_1060
  let c0_i32_1061 : BitVec 32 := 0#32
  let v1779 : Index := Scalar.indexCast c0_i32_1061
  let c0_i32_1054 : BitVec 32 := 0#32
  let c0_i32_920 : BitVec 32 := 0#32
  let c1_i32_922 : BitVec 32 := 1#32
  let arg9 : BitVec 32 := Scf.iv c0_i32_920 c1_i32_922 k0_t14
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![6, 0, v1780.toNat]
@[reducible] def k0_t15_loop : Scf.Loop 32 :=
  let c0_i32_925 : BitVec 32 := 0#32
  let c32_i32_926 : BitVec 32 := 32#32
  let v1554 : BitVec 32 := Scalar.addi c0_i32_925 c32_i32_926
  let c1_i32_927 : BitVec 32 := 1#32
  ⟨c0_i32_925, v1554, c1_i32_927⟩

def k0_chk14 (v1553 : IVec S16 32) (v1773 : IVec S16 32) : Prop :=
  (∀ a x, ((![v1553, v1773] : Fin 2 → IVec S16 32) a x).toNat < S2x4096.size a)
theorem k0_idx14_inb : ∀ (v1553 : IVec S16 32) (v1773 : IVec S16 32) (k0_hw14 : k0_chk14 v1553 v1773), ∀ a x, ((![v1553, v1773] : Fin 2 → IVec S16 32) a x).toNat < S2x4096.size a := fun v1553 v1773 k0_hw14 => k0_hw14
def k0_off48 (k0_t15 : Fin k0_t15_loop.trips) : Fin 3 → Nat :=
  let c6_i32_1060 : BitVec 32 := 6#32
  let v1778 : Index := Scalar.indexCast c6_i32_1060
  let c1_i32_1061 : BitVec 32 := 1#32
  let v1779 : Index := Scalar.indexCast c1_i32_1061
  let c0_i32_1054 : BitVec 32 := 0#32
  let c0_i32_925 : BitVec 32 := 0#32
  let c1_i32_927 : BitVec 32 := 1#32
  let arg9 : BitVec 32 := Scf.iv c0_i32_925 c1_i32_927 k0_t15
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![6, 1, v1780.toNat]
def k0_off49 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c6_i32_881 : BitVec 32 := 6#32
  let v1481 : BitVec 32 := Scalar.addi v616 c6_i32_881
  let c0_i32_930 : BitVec 32 := 0#32
  let v1556 : BitVec 1 := Scalar.cmpi .sgt v1481 c0_i32_930
  let v1557 : BitVec 32 := Scalar.extui v1556
  let c0_i32_931 : BitVec 32 := 0#32
  let v1558 : BitVec 1 := Scalar.cmpi .slt v1481 c0_i32_931
  let v1559 : BitVec 32 := Scalar.extui v1558
  let v1560 : BitVec 32 := Scalar.subi v1557 v1559
  let c64_i32_929 : BitVec 32 := 64#32
  let c0_i32_932 : BitVec 32 := 0#32
  let v1561 : BitVec 1 := Scalar.cmpi .sgt c64_i32_929 c0_i32_932
  let v1562 : BitVec 32 := Scalar.extui v1561
  let c0_i32_933 : BitVec 32 := 0#32
  let v1563 : BitVec 1 := Scalar.cmpi .slt c64_i32_929 c0_i32_933
  let v1564 : BitVec 32 := Scalar.extui v1563
  let v1565 : BitVec 32 := Scalar.subi v1562 v1564
  let v1566 : BitVec 1 := Scalar.cmpi .ne v1560 v1565
  let v1567 : BitVec 32 := Scalar.remsi v1481 c64_i32_929
  let c0_i32_934 : BitVec 32 := 0#32
  let v1568 : BitVec 1 := Scalar.cmpi .ne v1567 c0_i32_934
  let v1569 : BitVec 1 := Scalar.andi v1566 v1568
  let v1555 : BitVec 32 := Scalar.divsi v1481 c64_i32_929
  let c1_i32_935 : BitVec 32 := 1#32
  let v1570 : BitVec 32 := Scalar.subi v1555 c1_i32_935
  let v1571 : BitVec 32 := Scalar.select v1569 v1570 v1555
  let v1572 : BitVec 32 := Scalar.addi v2 v1571
  let c0_i32_943 : BitVec 32 := 0#32
  let v1584 : BitVec 1 := Scalar.cmpi .sgt v1572 c0_i32_943
  let v1585 : BitVec 32 := Scalar.extui v1584
  let c0_i32_944 : BitVec 32 := 0#32
  let v1586 : BitVec 1 := Scalar.cmpi .slt v1572 c0_i32_944
  let v1587 : BitVec 32 := Scalar.extui v1586
  let v1588 : BitVec 32 := Scalar.subi v1585 v1587
  let c4_i32_942 : BitVec 32 := 4#32
  let c0_i32_945 : BitVec 32 := 0#32
  let v1589 : BitVec 1 := Scalar.cmpi .sgt c4_i32_942 c0_i32_945
  let v1590 : BitVec 32 := Scalar.extui v1589
  let c0_i32_946 : BitVec 32 := 0#32
  let v1591 : BitVec 1 := Scalar.cmpi .slt c4_i32_942 c0_i32_946
  let v1592 : BitVec 32 := Scalar.extui v1591
  let v1593 : BitVec 32 := Scalar.subi v1590 v1592
  let v1594 : BitVec 1 := Scalar.cmpi .ne v1588 v1593
  let v1595 : BitVec 32 := Scalar.remsi v1572 c4_i32_942
  let c0_i32_947 : BitVec 32 := 0#32
  let v1596 : BitVec 1 := Scalar.cmpi .ne v1595 c0_i32_947
  let v1597 : BitVec 1 := Scalar.andi v1594 v1596
  let v1583 : BitVec 32 := Scalar.divsi v1572 c4_i32_942
  let c1_i32_948 : BitVec 32 := 1#32
  let v1598 : BitVec 32 := Scalar.subi v1583 c1_i32_948
  let v1599 : BitVec 32 := Scalar.select v1597 v1598 v1583
  let c4_i32_949 : BitVec 32 := 4#32
  let c0_i32_950 : BitVec 32 := 0#32
  let v1600 : BitVec 1 := Scalar.cmpi .eq c4_i32_949 c0_i32_950
  let c1_i32_951 : BitVec 32 := 1#32
  let v1601 : BitVec 32 := Scalar.select v1600 c1_i32_951 c4_i32_949
  let v1602 : BitVec 32 := Scalar.remsi v1572 v1601
  let c0_i32_953 : BitVec 32 := 0#32
  let v1604 : BitVec 1 := Scalar.cmpi .slt v1602 c0_i32_953
  let c0_i32_954 : BitVec 32 := 0#32
  let v1605 : BitVec 1 := Scalar.cmpi .slt v1601 c0_i32_954
  let v1606 : BitVec 1 := Scalar.xori v1604 v1605
  let c0_i32_952 : BitVec 32 := 0#32
  let v1603 : BitVec 1 := Scalar.cmpi .ne v1602 c0_i32_952
  let v1607 : BitVec 1 := Scalar.andi v1606 v1603
  let v1608 : BitVec 32 := Scalar.addi v1602 v1601
  let v1609 : BitVec 32 := Scalar.select v1607 v1608 v1602
  let c0_i32_960 : BitVec 32 := 0#32
  let c64_i32_936 : BitVec 32 := 64#32
  let c0_i32_937 : BitVec 32 := 0#32
  let v1573 : BitVec 1 := Scalar.cmpi .eq c64_i32_936 c0_i32_937
  let c1_i32_938 : BitVec 32 := 1#32
  let v1574 : BitVec 32 := Scalar.select v1573 c1_i32_938 c64_i32_936
  let v1575 : BitVec 32 := Scalar.remsi v1481 v1574
  let c0_i32_940 : BitVec 32 := 0#32
  let v1577 : BitVec 1 := Scalar.cmpi .slt v1575 c0_i32_940
  let c0_i32_941 : BitVec 32 := 0#32
  let v1578 : BitVec 1 := Scalar.cmpi .slt v1574 c0_i32_941
  let v1579 : BitVec 1 := Scalar.xori v1577 v1578
  let c0_i32_939 : BitVec 32 := 0#32
  let v1576 : BitVec 1 := Scalar.cmpi .ne v1575 c0_i32_939
  let v1580 : BitVec 1 := Scalar.andi v1579 v1576
  let v1581 : BitVec 32 := Scalar.addi v1575 v1574
  let v1582 : BitVec 32 := Scalar.select v1580 v1581 v1575
  let c512_i32_955 : BitVec 32 := 512#32
  let v1610 : BitVec 32 := Scalar.muli v1582 c512_i32_955
  ![v1599.toNat, v1609.toNat, 0, v1610.toNat]
def k0_cond14 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c6_i32_881 : BitVec 32 := 6#32
  let v1481 : BitVec 32 := Scalar.addi v616 c6_i32_881
  let c8_i32_964 : BitVec 32 := 8#32
  let v1621 : BitVec 32 := Scalar.addi v1481 c8_i32_964
  let c128_i32_965 : BitVec 32 := 128#32
  let v1622 : BitVec 1 := Scalar.cmpi .slt v1621 c128_i32_965
  let v1623 : BitVec 32 := Scalar.extui v1622
  let c0_i32_966 : BitVec 32 := 0#32
  let v1624 : BitVec 1 := Scalar.cmpi .ne v1623 c0_i32_966
  v1624

def k0_off50 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c6_i32_881 : BitVec 32 := 6#32
  let v1481 : BitVec 32 := Scalar.addi v616 c6_i32_881
  let c8_i32_1053 : BitVec 32 := 8#32
  let v1769 : BitVec 32 := Scalar.addi v1481 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_cond15 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c0_i32_968 : BitVec 32 := 0#32
  let v1626 : BitVec 1 := Scalar.cmpi .sgt v616 c0_i32_968
  let v1627 : BitVec 32 := Scalar.extui v1626
  let c0_i32_969 : BitVec 32 := 0#32
  let v1628 : BitVec 1 := Scalar.cmpi .ne v1627 c0_i32_969
  v1628

def k0_off51 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c7_i32_967 : BitVec 32 := 7#32
  let v1625 : BitVec 32 := Scalar.addi v616 c7_i32_967
  let c8_i32_1053 : BitVec 32 := 8#32
  let v1769 : BitVec 32 := Scalar.subi v1625 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c512_i32_1080 : BitVec 32 := 512#32
  let v1825 : BitVec 32 := Scalar.muli v1797 c512_i32_1080
  ![v1814.toNat, v1824.toNat, 0, v1825.toNat]
def k0_off52 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c7_i32_967 : BitVec 32 := 7#32
  let v1625 : BitVec 32 := Scalar.addi v616 c7_i32_967
  let c0_i32_971 : BitVec 32 := 0#32
  let v1630 : BitVec 1 := Scalar.cmpi .sgt v1625 c0_i32_971
  let v1631 : BitVec 32 := Scalar.extui v1630
  let c0_i32_972 : BitVec 32 := 0#32
  let v1632 : BitVec 1 := Scalar.cmpi .slt v1625 c0_i32_972
  let v1633 : BitVec 32 := Scalar.extui v1632
  let v1634 : BitVec 32 := Scalar.subi v1631 v1633
  let c64_i32_970 : BitVec 32 := 64#32
  let c0_i32_973 : BitVec 32 := 0#32
  let v1635 : BitVec 1 := Scalar.cmpi .sgt c64_i32_970 c0_i32_973
  let v1636 : BitVec 32 := Scalar.extui v1635
  let c0_i32_974 : BitVec 32 := 0#32
  let v1637 : BitVec 1 := Scalar.cmpi .slt c64_i32_970 c0_i32_974
  let v1638 : BitVec 32 := Scalar.extui v1637
  let v1639 : BitVec 32 := Scalar.subi v1636 v1638
  let v1640 : BitVec 1 := Scalar.cmpi .ne v1634 v1639
  let v1641 : BitVec 32 := Scalar.remsi v1625 c64_i32_970
  let c0_i32_975 : BitVec 32 := 0#32
  let v1642 : BitVec 1 := Scalar.cmpi .ne v1641 c0_i32_975
  let v1643 : BitVec 1 := Scalar.andi v1640 v1642
  let v1629 : BitVec 32 := Scalar.divsi v1625 c64_i32_970
  let c1_i32_976 : BitVec 32 := 1#32
  let v1644 : BitVec 32 := Scalar.subi v1629 c1_i32_976
  let v1645 : BitVec 32 := Scalar.select v1643 v1644 v1629
  let v1646 : BitVec 32 := Scalar.addi v2 v1645
  let c0_i32_984 : BitVec 32 := 0#32
  let v1658 : BitVec 1 := Scalar.cmpi .sgt v1646 c0_i32_984
  let v1659 : BitVec 32 := Scalar.extui v1658
  let c0_i32_985 : BitVec 32 := 0#32
  let v1660 : BitVec 1 := Scalar.cmpi .slt v1646 c0_i32_985
  let v1661 : BitVec 32 := Scalar.extui v1660
  let v1662 : BitVec 32 := Scalar.subi v1659 v1661
  let c4_i32_983 : BitVec 32 := 4#32
  let c0_i32_986 : BitVec 32 := 0#32
  let v1663 : BitVec 1 := Scalar.cmpi .sgt c4_i32_983 c0_i32_986
  let v1664 : BitVec 32 := Scalar.extui v1663
  let c0_i32_987 : BitVec 32 := 0#32
  let v1665 : BitVec 1 := Scalar.cmpi .slt c4_i32_983 c0_i32_987
  let v1666 : BitVec 32 := Scalar.extui v1665
  let v1667 : BitVec 32 := Scalar.subi v1664 v1666
  let v1668 : BitVec 1 := Scalar.cmpi .ne v1662 v1667
  let v1669 : BitVec 32 := Scalar.remsi v1646 c4_i32_983
  let c0_i32_988 : BitVec 32 := 0#32
  let v1670 : BitVec 1 := Scalar.cmpi .ne v1669 c0_i32_988
  let v1671 : BitVec 1 := Scalar.andi v1668 v1670
  let v1657 : BitVec 32 := Scalar.divsi v1646 c4_i32_983
  let c1_i32_989 : BitVec 32 := 1#32
  let v1672 : BitVec 32 := Scalar.subi v1657 c1_i32_989
  let v1673 : BitVec 32 := Scalar.select v1671 v1672 v1657
  let c4_i32_990 : BitVec 32 := 4#32
  let c0_i32_991 : BitVec 32 := 0#32
  let v1674 : BitVec 1 := Scalar.cmpi .eq c4_i32_990 c0_i32_991
  let c1_i32_992 : BitVec 32 := 1#32
  let v1675 : BitVec 32 := Scalar.select v1674 c1_i32_992 c4_i32_990
  let v1676 : BitVec 32 := Scalar.remsi v1646 v1675
  let c0_i32_994 : BitVec 32 := 0#32
  let v1678 : BitVec 1 := Scalar.cmpi .slt v1676 c0_i32_994
  let c0_i32_995 : BitVec 32 := 0#32
  let v1679 : BitVec 1 := Scalar.cmpi .slt v1675 c0_i32_995
  let v1680 : BitVec 1 := Scalar.xori v1678 v1679
  let c0_i32_993 : BitVec 32 := 0#32
  let v1677 : BitVec 1 := Scalar.cmpi .ne v1676 c0_i32_993
  let v1681 : BitVec 1 := Scalar.andi v1680 v1677
  let v1682 : BitVec 32 := Scalar.addi v1676 v1675
  let v1683 : BitVec 32 := Scalar.select v1681 v1682 v1676
  let c0_i32_1001 : BitVec 32 := 0#32
  let c64_i32_977 : BitVec 32 := 64#32
  let c0_i32_978 : BitVec 32 := 0#32
  let v1647 : BitVec 1 := Scalar.cmpi .eq c64_i32_977 c0_i32_978
  let c1_i32_979 : BitVec 32 := 1#32
  let v1648 : BitVec 32 := Scalar.select v1647 c1_i32_979 c64_i32_977
  let v1649 : BitVec 32 := Scalar.remsi v1625 v1648
  let c0_i32_981 : BitVec 32 := 0#32
  let v1651 : BitVec 1 := Scalar.cmpi .slt v1649 c0_i32_981
  let c0_i32_982 : BitVec 32 := 0#32
  let v1652 : BitVec 1 := Scalar.cmpi .slt v1648 c0_i32_982
  let v1653 : BitVec 1 := Scalar.xori v1651 v1652
  let c0_i32_980 : BitVec 32 := 0#32
  let v1650 : BitVec 1 := Scalar.cmpi .ne v1649 c0_i32_980
  let v1654 : BitVec 1 := Scalar.andi v1653 v1650
  let v1655 : BitVec 32 := Scalar.addi v1649 v1648
  let v1656 : BitVec 32 := Scalar.select v1654 v1655 v1649
  let c4096_i32_996 : BitVec 32 := 4096#32
  let v1684 : BitVec 32 := Scalar.muli v1656 c4096_i32_996
  ![v1673.toNat, v1683.toNat, 0, v1684.toNat]
@[reducible] def k0_t16_loop : Scf.Loop 32 :=
  let c0_i32_1006 : BitVec 32 := 0#32
  let c32_i32_1007 : BitVec 32 := 32#32
  let v1696 : BitVec 32 := Scalar.addi c0_i32_1006 c32_i32_1007
  let c1_i32_1008 : BitVec 32 := 1#32
  ⟨c0_i32_1006, v1696, c1_i32_1008⟩

def k0_chk15 (v1695 : IVec S16 32) (v1773 : IVec S16 32) : Prop :=
  (∀ a x, ((![v1695, v1773] : Fin 2 → IVec S16 32) a x).toNat < S2x4096.size a)
theorem k0_idx15_inb : ∀ (v1695 : IVec S16 32) (v1773 : IVec S16 32) (k0_hw15 : k0_chk15 v1695 v1773), ∀ a x, ((![v1695, v1773] : Fin 2 → IVec S16 32) a x).toNat < S2x4096.size a := fun v1695 v1773 k0_hw15 => k0_hw15
def k0_off53 (k0_t16 : Fin k0_t16_loop.trips) : Fin 3 → Nat :=
  let c7_i32_1060 : BitVec 32 := 7#32
  let v1778 : Index := Scalar.indexCast c7_i32_1060
  let c0_i32_1061 : BitVec 32 := 0#32
  let v1779 : Index := Scalar.indexCast c0_i32_1061
  let c0_i32_1054 : BitVec 32 := 0#32
  let c0_i32_1006 : BitVec 32 := 0#32
  let c1_i32_1008 : BitVec 32 := 1#32
  let arg9 : BitVec 32 := Scf.iv c0_i32_1006 c1_i32_1008 k0_t16
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![7, 0, v1780.toNat]
@[reducible] def k0_t17_loop : Scf.Loop 32 :=
  let c0_i32_1011 : BitVec 32 := 0#32
  let c32_i32_1012 : BitVec 32 := 32#32
  let v1698 : BitVec 32 := Scalar.addi c0_i32_1011 c32_i32_1012
  let c1_i32_1013 : BitVec 32 := 1#32
  ⟨c0_i32_1011, v1698, c1_i32_1013⟩

def k0_chk16 (v1697 : IVec S16 32) (v1773 : IVec S16 32) : Prop :=
  (∀ a x, ((![v1697, v1773] : Fin 2 → IVec S16 32) a x).toNat < S2x4096.size a)
theorem k0_idx16_inb : ∀ (v1697 : IVec S16 32) (v1773 : IVec S16 32) (k0_hw16 : k0_chk16 v1697 v1773), ∀ a x, ((![v1697, v1773] : Fin 2 → IVec S16 32) a x).toNat < S2x4096.size a := fun v1697 v1773 k0_hw16 => k0_hw16
def k0_off54 (k0_t17 : Fin k0_t17_loop.trips) : Fin 3 → Nat :=
  let c7_i32_1060 : BitVec 32 := 7#32
  let v1778 : Index := Scalar.indexCast c7_i32_1060
  let c1_i32_1061 : BitVec 32 := 1#32
  let v1779 : Index := Scalar.indexCast c1_i32_1061
  let c0_i32_1054 : BitVec 32 := 0#32
  let c0_i32_1011 : BitVec 32 := 0#32
  let c1_i32_1013 : BitVec 32 := 1#32
  let arg9 : BitVec 32 := Scf.iv c0_i32_1011 c1_i32_1013 k0_t17
  let c1_i32_1053 : BitVec 32 := 1#32
  let v1769 : BitVec 32 := Scalar.muli arg9 c1_i32_1053
  let v1770 : BitVec 32 := Scalar.addi c0_i32_1054 v1769
  let c16_i32_1059 : BitVec 32 := 16#32
  let v1777 : BitVec 32 := Scalar.muli v1770 c16_i32_1059
  let v1780 : Index := Scalar.indexCast v1777
  ![7, 1, v1780.toNat]
def k0_off55 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c7_i32_967 : BitVec 32 := 7#32
  let v1625 : BitVec 32 := Scalar.addi v616 c7_i32_967
  let c0_i32_1016 : BitVec 32 := 0#32
  let v1700 : BitVec 1 := Scalar.cmpi .sgt v1625 c0_i32_1016
  let v1701 : BitVec 32 := Scalar.extui v1700
  let c0_i32_1017 : BitVec 32 := 0#32
  let v1702 : BitVec 1 := Scalar.cmpi .slt v1625 c0_i32_1017
  let v1703 : BitVec 32 := Scalar.extui v1702
  let v1704 : BitVec 32 := Scalar.subi v1701 v1703
  let c64_i32_1015 : BitVec 32 := 64#32
  let c0_i32_1018 : BitVec 32 := 0#32
  let v1705 : BitVec 1 := Scalar.cmpi .sgt c64_i32_1015 c0_i32_1018
  let v1706 : BitVec 32 := Scalar.extui v1705
  let c0_i32_1019 : BitVec 32 := 0#32
  let v1707 : BitVec 1 := Scalar.cmpi .slt c64_i32_1015 c0_i32_1019
  let v1708 : BitVec 32 := Scalar.extui v1707
  let v1709 : BitVec 32 := Scalar.subi v1706 v1708
  let v1710 : BitVec 1 := Scalar.cmpi .ne v1704 v1709
  let v1711 : BitVec 32 := Scalar.remsi v1625 c64_i32_1015
  let c0_i32_1020 : BitVec 32 := 0#32
  let v1712 : BitVec 1 := Scalar.cmpi .ne v1711 c0_i32_1020
  let v1713 : BitVec 1 := Scalar.andi v1710 v1712
  let v1699 : BitVec 32 := Scalar.divsi v1625 c64_i32_1015
  let c1_i32_1021 : BitVec 32 := 1#32
  let v1714 : BitVec 32 := Scalar.subi v1699 c1_i32_1021
  let v1715 : BitVec 32 := Scalar.select v1713 v1714 v1699
  let v1716 : BitVec 32 := Scalar.addi v2 v1715
  let c0_i32_1029 : BitVec 32 := 0#32
  let v1728 : BitVec 1 := Scalar.cmpi .sgt v1716 c0_i32_1029
  let v1729 : BitVec 32 := Scalar.extui v1728
  let c0_i32_1030 : BitVec 32 := 0#32
  let v1730 : BitVec 1 := Scalar.cmpi .slt v1716 c0_i32_1030
  let v1731 : BitVec 32 := Scalar.extui v1730
  let v1732 : BitVec 32 := Scalar.subi v1729 v1731
  let c4_i32_1028 : BitVec 32 := 4#32
  let c0_i32_1031 : BitVec 32 := 0#32
  let v1733 : BitVec 1 := Scalar.cmpi .sgt c4_i32_1028 c0_i32_1031
  let v1734 : BitVec 32 := Scalar.extui v1733
  let c0_i32_1032 : BitVec 32 := 0#32
  let v1735 : BitVec 1 := Scalar.cmpi .slt c4_i32_1028 c0_i32_1032
  let v1736 : BitVec 32 := Scalar.extui v1735
  let v1737 : BitVec 32 := Scalar.subi v1734 v1736
  let v1738 : BitVec 1 := Scalar.cmpi .ne v1732 v1737
  let v1739 : BitVec 32 := Scalar.remsi v1716 c4_i32_1028
  let c0_i32_1033 : BitVec 32 := 0#32
  let v1740 : BitVec 1 := Scalar.cmpi .ne v1739 c0_i32_1033
  let v1741 : BitVec 1 := Scalar.andi v1738 v1740
  let v1727 : BitVec 32 := Scalar.divsi v1716 c4_i32_1028
  let c1_i32_1034 : BitVec 32 := 1#32
  let v1742 : BitVec 32 := Scalar.subi v1727 c1_i32_1034
  let v1743 : BitVec 32 := Scalar.select v1741 v1742 v1727
  let c4_i32_1035 : BitVec 32 := 4#32
  let c0_i32_1036 : BitVec 32 := 0#32
  let v1744 : BitVec 1 := Scalar.cmpi .eq c4_i32_1035 c0_i32_1036
  let c1_i32_1037 : BitVec 32 := 1#32
  let v1745 : BitVec 32 := Scalar.select v1744 c1_i32_1037 c4_i32_1035
  let v1746 : BitVec 32 := Scalar.remsi v1716 v1745
  let c0_i32_1039 : BitVec 32 := 0#32
  let v1748 : BitVec 1 := Scalar.cmpi .slt v1746 c0_i32_1039
  let c0_i32_1040 : BitVec 32 := 0#32
  let v1749 : BitVec 1 := Scalar.cmpi .slt v1745 c0_i32_1040
  let v1750 : BitVec 1 := Scalar.xori v1748 v1749
  let c0_i32_1038 : BitVec 32 := 0#32
  let v1747 : BitVec 1 := Scalar.cmpi .ne v1746 c0_i32_1038
  let v1751 : BitVec 1 := Scalar.andi v1750 v1747
  let v1752 : BitVec 32 := Scalar.addi v1746 v1745
  let v1753 : BitVec 32 := Scalar.select v1751 v1752 v1746
  let c0_i32_1046 : BitVec 32 := 0#32
  let c64_i32_1022 : BitVec 32 := 64#32
  let c0_i32_1023 : BitVec 32 := 0#32
  let v1717 : BitVec 1 := Scalar.cmpi .eq c64_i32_1022 c0_i32_1023
  let c1_i32_1024 : BitVec 32 := 1#32
  let v1718 : BitVec 32 := Scalar.select v1717 c1_i32_1024 c64_i32_1022
  let v1719 : BitVec 32 := Scalar.remsi v1625 v1718
  let c0_i32_1026 : BitVec 32 := 0#32
  let v1721 : BitVec 1 := Scalar.cmpi .slt v1719 c0_i32_1026
  let c0_i32_1027 : BitVec 32 := 0#32
  let v1722 : BitVec 1 := Scalar.cmpi .slt v1718 c0_i32_1027
  let v1723 : BitVec 1 := Scalar.xori v1721 v1722
  let c0_i32_1025 : BitVec 32 := 0#32
  let v1720 : BitVec 1 := Scalar.cmpi .ne v1719 c0_i32_1025
  let v1724 : BitVec 1 := Scalar.andi v1723 v1720
  let v1725 : BitVec 32 := Scalar.addi v1719 v1718
  let v1726 : BitVec 32 := Scalar.select v1724 v1725 v1719
  let c512_i32_1041 : BitVec 32 := 512#32
  let v1754 : BitVec 32 := Scalar.muli v1726 c512_i32_1041
  ![v1743.toNat, v1753.toNat, 0, v1754.toNat]
def k0_cond16 (k0_t1 : Fin k0_t1_loop.trips) : BitVec 1 :=
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c7_i32_967 : BitVec 32 := 7#32
  let v1625 : BitVec 32 := Scalar.addi v616 c7_i32_967
  let c8_i32_1050 : BitVec 32 := 8#32
  let v1765 : BitVec 32 := Scalar.addi v1625 c8_i32_1050
  let c128_i32_1051 : BitVec 32 := 128#32
  let v1766 : BitVec 1 := Scalar.cmpi .slt v1765 c128_i32_1051
  let v1767 : BitVec 32 := Scalar.extui v1766
  let c0_i32_1052 : BitVec 32 := 0#32
  let v1768 : BitVec 1 := Scalar.cmpi .ne v1767 c0_i32_1052
  v1768

def k0_off56 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_368 : BitVec 32 := 0#32
  let c0_i32_179 : BitVec 32 := 0#32
  let c1_i32_180 : BitVec 32 := 1#32
  let arg8 : BitVec 32 := Scf.iv c0_i32_179 c1_i32_180 k0_t1
  let c8_i32_367 : BitVec 32 := 8#32
  let v615 : BitVec 32 := Scalar.muli arg8 c8_i32_367
  let v616 : BitVec 32 := Scalar.addi c0_i32_368 v615
  let c7_i32_967 : BitVec 32 := 7#32
  let v1625 : BitVec 32 := Scalar.addi v616 c7_i32_967
  let c8_i32_1053 : BitVec 32 := 8#32
  let v1769 : BitVec 32 := Scalar.addi v1625 c8_i32_1053
  let c0_i32_1055 : BitVec 32 := 0#32
  let v1771 : BitVec 1 := Scalar.cmpi .sgt v1769 c0_i32_1055
  let v1772 : BitVec 32 := Scalar.extui v1771
  let c0_i32_1056 : BitVec 32 := 0#32
  let v1773 : BitVec 1 := Scalar.cmpi .slt v1769 c0_i32_1056
  let v1774 : BitVec 32 := Scalar.extui v1773
  let v1775 : BitVec 32 := Scalar.subi v1772 v1774
  let c64_i32_1054 : BitVec 32 := 64#32
  let c0_i32_1057 : BitVec 32 := 0#32
  let v1776 : BitVec 1 := Scalar.cmpi .sgt c64_i32_1054 c0_i32_1057
  let v1777 : BitVec 32 := Scalar.extui v1776
  let c0_i32_1058 : BitVec 32 := 0#32
  let v1778 : BitVec 1 := Scalar.cmpi .slt c64_i32_1054 c0_i32_1058
  let v1779 : BitVec 32 := Scalar.extui v1778
  let v1780 : BitVec 32 := Scalar.subi v1777 v1779
  let v1781 : BitVec 1 := Scalar.cmpi .ne v1775 v1780
  let v1782 : BitVec 32 := Scalar.remsi v1769 c64_i32_1054
  let c0_i32_1059 : BitVec 32 := 0#32
  let v1783 : BitVec 1 := Scalar.cmpi .ne v1782 c0_i32_1059
  let v1784 : BitVec 1 := Scalar.andi v1781 v1783
  let v1770 : BitVec 32 := Scalar.divsi v1769 c64_i32_1054
  let c1_i32_1060 : BitVec 32 := 1#32
  let v1785 : BitVec 32 := Scalar.subi v1770 c1_i32_1060
  let v1786 : BitVec 32 := Scalar.select v1784 v1785 v1770
  let v1787 : BitVec 32 := Scalar.addi v2 v1786
  let c0_i32_1068 : BitVec 32 := 0#32
  let v1799 : BitVec 1 := Scalar.cmpi .sgt v1787 c0_i32_1068
  let v1800 : BitVec 32 := Scalar.extui v1799
  let c0_i32_1069 : BitVec 32 := 0#32
  let v1801 : BitVec 1 := Scalar.cmpi .slt v1787 c0_i32_1069
  let v1802 : BitVec 32 := Scalar.extui v1801
  let v1803 : BitVec 32 := Scalar.subi v1800 v1802
  let c4_i32_1067 : BitVec 32 := 4#32
  let c0_i32_1070 : BitVec 32 := 0#32
  let v1804 : BitVec 1 := Scalar.cmpi .sgt c4_i32_1067 c0_i32_1070
  let v1805 : BitVec 32 := Scalar.extui v1804
  let c0_i32_1071 : BitVec 32 := 0#32
  let v1806 : BitVec 1 := Scalar.cmpi .slt c4_i32_1067 c0_i32_1071
  let v1807 : BitVec 32 := Scalar.extui v1806
  let v1808 : BitVec 32 := Scalar.subi v1805 v1807
  let v1809 : BitVec 1 := Scalar.cmpi .ne v1803 v1808
  let v1810 : BitVec 32 := Scalar.remsi v1787 c4_i32_1067
  let c0_i32_1072 : BitVec 32 := 0#32
  let v1811 : BitVec 1 := Scalar.cmpi .ne v1810 c0_i32_1072
  let v1812 : BitVec 1 := Scalar.andi v1809 v1811
  let v1798 : BitVec 32 := Scalar.divsi v1787 c4_i32_1067
  let c1_i32_1073 : BitVec 32 := 1#32
  let v1813 : BitVec 32 := Scalar.subi v1798 c1_i32_1073
  let v1814 : BitVec 32 := Scalar.select v1812 v1813 v1798
  let c4_i32_1074 : BitVec 32 := 4#32
  let c0_i32_1075 : BitVec 32 := 0#32
  let v1815 : BitVec 1 := Scalar.cmpi .eq c4_i32_1074 c0_i32_1075
  let c1_i32_1076 : BitVec 32 := 1#32
  let v1816 : BitVec 32 := Scalar.select v1815 c1_i32_1076 c4_i32_1074
  let v1817 : BitVec 32 := Scalar.remsi v1787 v1816
  let c0_i32_1078 : BitVec 32 := 0#32
  let v1819 : BitVec 1 := Scalar.cmpi .slt v1817 c0_i32_1078
  let c0_i32_1079 : BitVec 32 := 0#32
  let v1820 : BitVec 1 := Scalar.cmpi .slt v1816 c0_i32_1079
  let v1821 : BitVec 1 := Scalar.xori v1819 v1820
  let c0_i32_1077 : BitVec 32 := 0#32
  let v1818 : BitVec 1 := Scalar.cmpi .ne v1817 c0_i32_1077
  let v1822 : BitVec 1 := Scalar.andi v1821 v1818
  let v1823 : BitVec 32 := Scalar.addi v1817 v1816
  let v1824 : BitVec 32 := Scalar.select v1822 v1823 v1817
  let c0_i32_1085 : BitVec 32 := 0#32
  let c64_i32_1061 : BitVec 32 := 64#32
  let c0_i32_1062 : BitVec 32 := 0#32
  let v1788 : BitVec 1 := Scalar.cmpi .eq c64_i32_1061 c0_i32_1062
  let c1_i32_1063 : BitVec 32 := 1#32
  let v1789 : BitVec 32 := Scalar.select v1788 c1_i32_1063 c64_i32_1061
  let v1790 : BitVec 32 := Scalar.remsi v1769 v1789
  let c0_i32_1065 : BitVec 32 := 0#32
  let v1792 : BitVec 1 := Scalar.cmpi .slt v1790 c0_i32_1065
  let c0_i32_1066 : BitVec 32 := 0#32
  let v1793 : BitVec 1 := Scalar.cmpi .slt v1789 c0_i32_1066
  let v1794 : BitVec 1 := Scalar.xori v1792 v1793
  let c0_i32_1064 : BitVec 32 := 0#32
  let v1791 : BitVec 1 := Scalar.cmpi .ne v1790 c0_i32_1064
  let v1795 : BitVec 1 := Scalar.andi v1794 v1791
  let v1796 : BitVec 32 := Scalar.addi v1790 v1789
  let v1797 : BitVec 32 := Scalar.select v1795 v1796 v1790
  let c4096_i32_1080 : BitVec 32 := 4096#32
  let v1825 : BitVec 32 := Scalar.muli v1797 c4096_i32_1080
  ![v1814.toNat, v1824.toNat, 0, v1825.toNat]
def k0_off57 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_182 : BitVec 32 := 1#32
  let v311 : BitVec 32 := Scalar.addi v2 c1_i32_182
  let c0_i32_184 : BitVec 32 := 0#32
  let v313 : BitVec 1 := Scalar.cmpi .sgt v311 c0_i32_184
  let v314 : BitVec 32 := Scalar.extui v313
  let c0_i32_185 : BitVec 32 := 0#32
  let v315 : BitVec 1 := Scalar.cmpi .slt v311 c0_i32_185
  let v316 : BitVec 32 := Scalar.extui v315
  let v317 : BitVec 32 := Scalar.subi v314 v316
  let c4_i32_183 : BitVec 32 := 4#32
  let c0_i32_186 : BitVec 32 := 0#32
  let v318 : BitVec 1 := Scalar.cmpi .sgt c4_i32_183 c0_i32_186
  let v319 : BitVec 32 := Scalar.extui v318
  let c0_i32_187 : BitVec 32 := 0#32
  let v320 : BitVec 1 := Scalar.cmpi .slt c4_i32_183 c0_i32_187
  let v321 : BitVec 32 := Scalar.extui v320
  let v322 : BitVec 32 := Scalar.subi v319 v321
  let v323 : BitVec 1 := Scalar.cmpi .ne v317 v322
  let v324 : BitVec 32 := Scalar.remsi v311 c4_i32_183
  let c0_i32_188 : BitVec 32 := 0#32
  let v325 : BitVec 1 := Scalar.cmpi .ne v324 c0_i32_188
  let v326 : BitVec 1 := Scalar.andi v323 v325
  let v312 : BitVec 32 := Scalar.divsi v311 c4_i32_183
  let c1_i32_189 : BitVec 32 := 1#32
  let v327 : BitVec 32 := Scalar.subi v312 c1_i32_189
  let v328 : BitVec 32 := Scalar.select v326 v327 v312
  let c4_i32_190 : BitVec 32 := 4#32
  let c0_i32_191 : BitVec 32 := 0#32
  let v329 : BitVec 1 := Scalar.cmpi .eq c4_i32_190 c0_i32_191
  let c1_i32_192 : BitVec 32 := 1#32
  let v330 : BitVec 32 := Scalar.select v329 c1_i32_192 c4_i32_190
  let v331 : BitVec 32 := Scalar.remsi v311 v330
  let c0_i32_194 : BitVec 32 := 0#32
  let v333 : BitVec 1 := Scalar.cmpi .slt v331 c0_i32_194
  let c0_i32_195 : BitVec 32 := 0#32
  let v334 : BitVec 1 := Scalar.cmpi .slt v330 c0_i32_195
  let v335 : BitVec 1 := Scalar.xori v333 v334
  let c0_i32_193 : BitVec 32 := 0#32
  let v332 : BitVec 1 := Scalar.cmpi .ne v331 c0_i32_193
  let v336 : BitVec 1 := Scalar.andi v335 v332
  let v337 : BitVec 32 := Scalar.addi v331 v330
  let v338 : BitVec 32 := Scalar.select v336 v337 v331
  let c0_i32_200 : BitVec 32 := 0#32
  let c28672_i32_201 : BitVec 32 := 28672#32
  ![v328.toNat, v338.toNat, 0, 28672]
def k0_off58 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_206 : BitVec 32 := 1#32
  let v349 : BitVec 32 := Scalar.addi v2 c1_i32_206
  let c0_i32_208 : BitVec 32 := 0#32
  let v351 : BitVec 1 := Scalar.cmpi .sgt v349 c0_i32_208
  let v352 : BitVec 32 := Scalar.extui v351
  let c0_i32_209 : BitVec 32 := 0#32
  let v353 : BitVec 1 := Scalar.cmpi .slt v349 c0_i32_209
  let v354 : BitVec 32 := Scalar.extui v353
  let v355 : BitVec 32 := Scalar.subi v352 v354
  let c4_i32_207 : BitVec 32 := 4#32
  let c0_i32_210 : BitVec 32 := 0#32
  let v356 : BitVec 1 := Scalar.cmpi .sgt c4_i32_207 c0_i32_210
  let v357 : BitVec 32 := Scalar.extui v356
  let c0_i32_211 : BitVec 32 := 0#32
  let v358 : BitVec 1 := Scalar.cmpi .slt c4_i32_207 c0_i32_211
  let v359 : BitVec 32 := Scalar.extui v358
  let v360 : BitVec 32 := Scalar.subi v357 v359
  let v361 : BitVec 1 := Scalar.cmpi .ne v355 v360
  let v362 : BitVec 32 := Scalar.remsi v349 c4_i32_207
  let c0_i32_212 : BitVec 32 := 0#32
  let v363 : BitVec 1 := Scalar.cmpi .ne v362 c0_i32_212
  let v364 : BitVec 1 := Scalar.andi v361 v363
  let v350 : BitVec 32 := Scalar.divsi v349 c4_i32_207
  let c1_i32_213 : BitVec 32 := 1#32
  let v365 : BitVec 32 := Scalar.subi v350 c1_i32_213
  let v366 : BitVec 32 := Scalar.select v364 v365 v350
  let c4_i32_214 : BitVec 32 := 4#32
  let c0_i32_215 : BitVec 32 := 0#32
  let v367 : BitVec 1 := Scalar.cmpi .eq c4_i32_214 c0_i32_215
  let c1_i32_216 : BitVec 32 := 1#32
  let v368 : BitVec 32 := Scalar.select v367 c1_i32_216 c4_i32_214
  let v369 : BitVec 32 := Scalar.remsi v349 v368
  let c0_i32_218 : BitVec 32 := 0#32
  let v371 : BitVec 1 := Scalar.cmpi .slt v369 c0_i32_218
  let c0_i32_219 : BitVec 32 := 0#32
  let v372 : BitVec 1 := Scalar.cmpi .slt v368 c0_i32_219
  let v373 : BitVec 1 := Scalar.xori v371 v372
  let c0_i32_217 : BitVec 32 := 0#32
  let v370 : BitVec 1 := Scalar.cmpi .ne v369 c0_i32_217
  let v374 : BitVec 1 := Scalar.andi v373 v370
  let v375 : BitVec 32 := Scalar.addi v369 v368
  let v376 : BitVec 32 := Scalar.select v374 v375 v369
  let c0_i32_224 : BitVec 32 := 0#32
  let c29184_i32 : BitVec 32 := 29184#32
  ![v366.toNat, v376.toNat, 0, 29184]
def k0_off59 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_229 : BitVec 32 := 1#32
  let v387 : BitVec 32 := Scalar.addi v2 c1_i32_229
  let c0_i32_231 : BitVec 32 := 0#32
  let v389 : BitVec 1 := Scalar.cmpi .sgt v387 c0_i32_231
  let v390 : BitVec 32 := Scalar.extui v389
  let c0_i32_232 : BitVec 32 := 0#32
  let v391 : BitVec 1 := Scalar.cmpi .slt v387 c0_i32_232
  let v392 : BitVec 32 := Scalar.extui v391
  let v393 : BitVec 32 := Scalar.subi v390 v392
  let c4_i32_230 : BitVec 32 := 4#32
  let c0_i32_233 : BitVec 32 := 0#32
  let v394 : BitVec 1 := Scalar.cmpi .sgt c4_i32_230 c0_i32_233
  let v395 : BitVec 32 := Scalar.extui v394
  let c0_i32_234 : BitVec 32 := 0#32
  let v396 : BitVec 1 := Scalar.cmpi .slt c4_i32_230 c0_i32_234
  let v397 : BitVec 32 := Scalar.extui v396
  let v398 : BitVec 32 := Scalar.subi v395 v397
  let v399 : BitVec 1 := Scalar.cmpi .ne v393 v398
  let v400 : BitVec 32 := Scalar.remsi v387 c4_i32_230
  let c0_i32_235 : BitVec 32 := 0#32
  let v401 : BitVec 1 := Scalar.cmpi .ne v400 c0_i32_235
  let v402 : BitVec 1 := Scalar.andi v399 v401
  let v388 : BitVec 32 := Scalar.divsi v387 c4_i32_230
  let c1_i32_236 : BitVec 32 := 1#32
  let v403 : BitVec 32 := Scalar.subi v388 c1_i32_236
  let v404 : BitVec 32 := Scalar.select v402 v403 v388
  let c4_i32_237 : BitVec 32 := 4#32
  let c0_i32_238 : BitVec 32 := 0#32
  let v405 : BitVec 1 := Scalar.cmpi .eq c4_i32_237 c0_i32_238
  let c1_i32_239 : BitVec 32 := 1#32
  let v406 : BitVec 32 := Scalar.select v405 c1_i32_239 c4_i32_237
  let v407 : BitVec 32 := Scalar.remsi v387 v406
  let c0_i32_241 : BitVec 32 := 0#32
  let v409 : BitVec 1 := Scalar.cmpi .slt v407 c0_i32_241
  let c0_i32_242 : BitVec 32 := 0#32
  let v410 : BitVec 1 := Scalar.cmpi .slt v406 c0_i32_242
  let v411 : BitVec 1 := Scalar.xori v409 v410
  let c0_i32_240 : BitVec 32 := 0#32
  let v408 : BitVec 1 := Scalar.cmpi .ne v407 c0_i32_240
  let v412 : BitVec 1 := Scalar.andi v411 v408
  let v413 : BitVec 32 := Scalar.addi v407 v406
  let v414 : BitVec 32 := Scalar.select v412 v413 v407
  let c0_i32_247 : BitVec 32 := 0#32
  let c29696_i32 : BitVec 32 := 29696#32
  ![v404.toNat, v414.toNat, 0, 29696]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_252 : BitVec 32 := 1#32
  let v425 : BitVec 32 := Scalar.addi v2 c1_i32_252
  let c0_i32_254 : BitVec 32 := 0#32
  let v427 : BitVec 1 := Scalar.cmpi .sgt v425 c0_i32_254
  let v428 : BitVec 32 := Scalar.extui v427
  let c0_i32_255 : BitVec 32 := 0#32
  let v429 : BitVec 1 := Scalar.cmpi .slt v425 c0_i32_255
  let v430 : BitVec 32 := Scalar.extui v429
  let v431 : BitVec 32 := Scalar.subi v428 v430
  let c4_i32_253 : BitVec 32 := 4#32
  let c0_i32_256 : BitVec 32 := 0#32
  let v432 : BitVec 1 := Scalar.cmpi .sgt c4_i32_253 c0_i32_256
  let v433 : BitVec 32 := Scalar.extui v432
  let c0_i32_257 : BitVec 32 := 0#32
  let v434 : BitVec 1 := Scalar.cmpi .slt c4_i32_253 c0_i32_257
  let v435 : BitVec 32 := Scalar.extui v434
  let v436 : BitVec 32 := Scalar.subi v433 v435
  let v437 : BitVec 1 := Scalar.cmpi .ne v431 v436
  let v438 : BitVec 32 := Scalar.remsi v425 c4_i32_253
  let c0_i32_258 : BitVec 32 := 0#32
  let v439 : BitVec 1 := Scalar.cmpi .ne v438 c0_i32_258
  let v440 : BitVec 1 := Scalar.andi v437 v439
  let v426 : BitVec 32 := Scalar.divsi v425 c4_i32_253
  let c1_i32_259 : BitVec 32 := 1#32
  let v441 : BitVec 32 := Scalar.subi v426 c1_i32_259
  let v442 : BitVec 32 := Scalar.select v440 v441 v426
  let c4_i32_260 : BitVec 32 := 4#32
  let c0_i32_261 : BitVec 32 := 0#32
  let v443 : BitVec 1 := Scalar.cmpi .eq c4_i32_260 c0_i32_261
  let c1_i32_262 : BitVec 32 := 1#32
  let v444 : BitVec 32 := Scalar.select v443 c1_i32_262 c4_i32_260
  let v445 : BitVec 32 := Scalar.remsi v425 v444
  let c0_i32_264 : BitVec 32 := 0#32
  let v447 : BitVec 1 := Scalar.cmpi .slt v445 c0_i32_264
  let c0_i32_265 : BitVec 32 := 0#32
  let v448 : BitVec 1 := Scalar.cmpi .slt v444 c0_i32_265
  let v449 : BitVec 1 := Scalar.xori v447 v448
  let c0_i32_263 : BitVec 32 := 0#32
  let v446 : BitVec 1 := Scalar.cmpi .ne v445 c0_i32_263
  let v450 : BitVec 1 := Scalar.andi v449 v446
  let v451 : BitVec 32 := Scalar.addi v445 v444
  let v452 : BitVec 32 := Scalar.select v450 v451 v445
  let c0_i32_270 : BitVec 32 := 0#32
  let c30208_i32 : BitVec 32 := 30208#32
  ![v442.toNat, v452.toNat, 0, 30208]
def k0_off61 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_275 : BitVec 32 := 1#32
  let v463 : BitVec 32 := Scalar.addi v2 c1_i32_275
  let c0_i32_277 : BitVec 32 := 0#32
  let v465 : BitVec 1 := Scalar.cmpi .sgt v463 c0_i32_277
  let v466 : BitVec 32 := Scalar.extui v465
  let c0_i32_278 : BitVec 32 := 0#32
  let v467 : BitVec 1 := Scalar.cmpi .slt v463 c0_i32_278
  let v468 : BitVec 32 := Scalar.extui v467
  let v469 : BitVec 32 := Scalar.subi v466 v468
  let c4_i32_276 : BitVec 32 := 4#32
  let c0_i32_279 : BitVec 32 := 0#32
  let v470 : BitVec 1 := Scalar.cmpi .sgt c4_i32_276 c0_i32_279
  let v471 : BitVec 32 := Scalar.extui v470
  let c0_i32_280 : BitVec 32 := 0#32
  let v472 : BitVec 1 := Scalar.cmpi .slt c4_i32_276 c0_i32_280
  let v473 : BitVec 32 := Scalar.extui v472
  let v474 : BitVec 32 := Scalar.subi v471 v473
  let v475 : BitVec 1 := Scalar.cmpi .ne v469 v474
  let v476 : BitVec 32 := Scalar.remsi v463 c4_i32_276
  let c0_i32_281 : BitVec 32 := 0#32
  let v477 : BitVec 1 := Scalar.cmpi .ne v476 c0_i32_281
  let v478 : BitVec 1 := Scalar.andi v475 v477
  let v464 : BitVec 32 := Scalar.divsi v463 c4_i32_276
  let c1_i32_282 : BitVec 32 := 1#32
  let v479 : BitVec 32 := Scalar.subi v464 c1_i32_282
  let v480 : BitVec 32 := Scalar.select v478 v479 v464
  let c4_i32_283 : BitVec 32 := 4#32
  let c0_i32_284 : BitVec 32 := 0#32
  let v481 : BitVec 1 := Scalar.cmpi .eq c4_i32_283 c0_i32_284
  let c1_i32_285 : BitVec 32 := 1#32
  let v482 : BitVec 32 := Scalar.select v481 c1_i32_285 c4_i32_283
  let v483 : BitVec 32 := Scalar.remsi v463 v482
  let c0_i32_287 : BitVec 32 := 0#32
  let v485 : BitVec 1 := Scalar.cmpi .slt v483 c0_i32_287
  let c0_i32_288 : BitVec 32 := 0#32
  let v486 : BitVec 1 := Scalar.cmpi .slt v482 c0_i32_288
  let v487 : BitVec 1 := Scalar.xori v485 v486
  let c0_i32_286 : BitVec 32 := 0#32
  let v484 : BitVec 1 := Scalar.cmpi .ne v483 c0_i32_286
  let v488 : BitVec 1 := Scalar.andi v487 v484
  let v489 : BitVec 32 := Scalar.addi v483 v482
  let v490 : BitVec 32 := Scalar.select v488 v489 v483
  let c0_i32_293 : BitVec 32 := 0#32
  let c30720_i32 : BitVec 32 := 30720#32
  ![v480.toNat, v490.toNat, 0, 30720]
def k0_off62 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_298 : BitVec 32 := 1#32
  let v501 : BitVec 32 := Scalar.addi v2 c1_i32_298
  let c0_i32_300 : BitVec 32 := 0#32
  let v503 : BitVec 1 := Scalar.cmpi .sgt v501 c0_i32_300
  let v504 : BitVec 32 := Scalar.extui v503
  let c0_i32_301 : BitVec 32 := 0#32
  let v505 : BitVec 1 := Scalar.cmpi .slt v501 c0_i32_301
  let v506 : BitVec 32 := Scalar.extui v505
  let v507 : BitVec 32 := Scalar.subi v504 v506
  let c4_i32_299 : BitVec 32 := 4#32
  let c0_i32_302 : BitVec 32 := 0#32
  let v508 : BitVec 1 := Scalar.cmpi .sgt c4_i32_299 c0_i32_302
  let v509 : BitVec 32 := Scalar.extui v508
  let c0_i32_303 : BitVec 32 := 0#32
  let v510 : BitVec 1 := Scalar.cmpi .slt c4_i32_299 c0_i32_303
  let v511 : BitVec 32 := Scalar.extui v510
  let v512 : BitVec 32 := Scalar.subi v509 v511
  let v513 : BitVec 1 := Scalar.cmpi .ne v507 v512
  let v514 : BitVec 32 := Scalar.remsi v501 c4_i32_299
  let c0_i32_304 : BitVec 32 := 0#32
  let v515 : BitVec 1 := Scalar.cmpi .ne v514 c0_i32_304
  let v516 : BitVec 1 := Scalar.andi v513 v515
  let v502 : BitVec 32 := Scalar.divsi v501 c4_i32_299
  let c1_i32_305 : BitVec 32 := 1#32
  let v517 : BitVec 32 := Scalar.subi v502 c1_i32_305
  let v518 : BitVec 32 := Scalar.select v516 v517 v502
  let c4_i32_306 : BitVec 32 := 4#32
  let c0_i32_307 : BitVec 32 := 0#32
  let v519 : BitVec 1 := Scalar.cmpi .eq c4_i32_306 c0_i32_307
  let c1_i32_308 : BitVec 32 := 1#32
  let v520 : BitVec 32 := Scalar.select v519 c1_i32_308 c4_i32_306
  let v521 : BitVec 32 := Scalar.remsi v501 v520
  let c0_i32_310 : BitVec 32 := 0#32
  let v523 : BitVec 1 := Scalar.cmpi .slt v521 c0_i32_310
  let c0_i32_311 : BitVec 32 := 0#32
  let v524 : BitVec 1 := Scalar.cmpi .slt v520 c0_i32_311
  let v525 : BitVec 1 := Scalar.xori v523 v524
  let c0_i32_309 : BitVec 32 := 0#32
  let v522 : BitVec 1 := Scalar.cmpi .ne v521 c0_i32_309
  let v526 : BitVec 1 := Scalar.andi v525 v522
  let v527 : BitVec 32 := Scalar.addi v521 v520
  let v528 : BitVec 32 := Scalar.select v526 v527 v521
  let c0_i32_316 : BitVec 32 := 0#32
  let c31232_i32 : BitVec 32 := 31232#32
  ![v518.toNat, v528.toNat, 0, 31232]
def k0_off63 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_321 : BitVec 32 := 1#32
  let v539 : BitVec 32 := Scalar.addi v2 c1_i32_321
  let c0_i32_323 : BitVec 32 := 0#32
  let v541 : BitVec 1 := Scalar.cmpi .sgt v539 c0_i32_323
  let v542 : BitVec 32 := Scalar.extui v541
  let c0_i32_324 : BitVec 32 := 0#32
  let v543 : BitVec 1 := Scalar.cmpi .slt v539 c0_i32_324
  let v544 : BitVec 32 := Scalar.extui v543
  let v545 : BitVec 32 := Scalar.subi v542 v544
  let c4_i32_322 : BitVec 32 := 4#32
  let c0_i32_325 : BitVec 32 := 0#32
  let v546 : BitVec 1 := Scalar.cmpi .sgt c4_i32_322 c0_i32_325
  let v547 : BitVec 32 := Scalar.extui v546
  let c0_i32_326 : BitVec 32 := 0#32
  let v548 : BitVec 1 := Scalar.cmpi .slt c4_i32_322 c0_i32_326
  let v549 : BitVec 32 := Scalar.extui v548
  let v550 : BitVec 32 := Scalar.subi v547 v549
  let v551 : BitVec 1 := Scalar.cmpi .ne v545 v550
  let v552 : BitVec 32 := Scalar.remsi v539 c4_i32_322
  let c0_i32_327 : BitVec 32 := 0#32
  let v553 : BitVec 1 := Scalar.cmpi .ne v552 c0_i32_327
  let v554 : BitVec 1 := Scalar.andi v551 v553
  let v540 : BitVec 32 := Scalar.divsi v539 c4_i32_322
  let c1_i32_328 : BitVec 32 := 1#32
  let v555 : BitVec 32 := Scalar.subi v540 c1_i32_328
  let v556 : BitVec 32 := Scalar.select v554 v555 v540
  let c4_i32_329 : BitVec 32 := 4#32
  let c0_i32_330 : BitVec 32 := 0#32
  let v557 : BitVec 1 := Scalar.cmpi .eq c4_i32_329 c0_i32_330
  let c1_i32_331 : BitVec 32 := 1#32
  let v558 : BitVec 32 := Scalar.select v557 c1_i32_331 c4_i32_329
  let v559 : BitVec 32 := Scalar.remsi v539 v558
  let c0_i32_333 : BitVec 32 := 0#32
  let v561 : BitVec 1 := Scalar.cmpi .slt v559 c0_i32_333
  let c0_i32_334 : BitVec 32 := 0#32
  let v562 : BitVec 1 := Scalar.cmpi .slt v558 c0_i32_334
  let v563 : BitVec 1 := Scalar.xori v561 v562
  let c0_i32_332 : BitVec 32 := 0#32
  let v560 : BitVec 1 := Scalar.cmpi .ne v559 c0_i32_332
  let v564 : BitVec 1 := Scalar.andi v563 v560
  let v565 : BitVec 32 := Scalar.addi v559 v558
  let v566 : BitVec 32 := Scalar.select v564 v565 v559
  let c0_i32_339 : BitVec 32 := 0#32
  let c31744_i32 : BitVec 32 := 31744#32
  ![v556.toNat, v566.toNat, 0, 31744]
def k0_off64 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32_344 : BitVec 32 := 1#32
  let v577 : BitVec 32 := Scalar.addi v2 c1_i32_344
  let c0_i32_346 : BitVec 32 := 0#32
  let v579 : BitVec 1 := Scalar.cmpi .sgt v577 c0_i32_346
  let v580 : BitVec 32 := Scalar.extui v579
  let c0_i32_347 : BitVec 32 := 0#32
  let v581 : BitVec 1 := Scalar.cmpi .slt v577 c0_i32_347
  let v582 : BitVec 32 := Scalar.extui v581
  let v583 : BitVec 32 := Scalar.subi v580 v582
  let c4_i32_345 : BitVec 32 := 4#32
  let c0_i32_348 : BitVec 32 := 0#32
  let v584 : BitVec 1 := Scalar.cmpi .sgt c4_i32_345 c0_i32_348
  let v585 : BitVec 32 := Scalar.extui v584
  let c0_i32_349 : BitVec 32 := 0#32
  let v586 : BitVec 1 := Scalar.cmpi .slt c4_i32_345 c0_i32_349
  let v587 : BitVec 32 := Scalar.extui v586
  let v588 : BitVec 32 := Scalar.subi v585 v587
  let v589 : BitVec 1 := Scalar.cmpi .ne v583 v588
  let v590 : BitVec 32 := Scalar.remsi v577 c4_i32_345
  let c0_i32_350 : BitVec 32 := 0#32
  let v591 : BitVec 1 := Scalar.cmpi .ne v590 c0_i32_350
  let v592 : BitVec 1 := Scalar.andi v589 v591
  let v578 : BitVec 32 := Scalar.divsi v577 c4_i32_345
  let c1_i32_351 : BitVec 32 := 1#32
  let v593 : BitVec 32 := Scalar.subi v578 c1_i32_351
  let v594 : BitVec 32 := Scalar.select v592 v593 v578
  let c4_i32_352 : BitVec 32 := 4#32
  let c0_i32_353 : BitVec 32 := 0#32
  let v595 : BitVec 1 := Scalar.cmpi .eq c4_i32_352 c0_i32_353
  let c1_i32_354 : BitVec 32 := 1#32
  let v596 : BitVec 32 := Scalar.select v595 c1_i32_354 c4_i32_352
  let v597 : BitVec 32 := Scalar.remsi v577 v596
  let c0_i32_356 : BitVec 32 := 0#32
  let v599 : BitVec 1 := Scalar.cmpi .slt v597 c0_i32_356
  let c0_i32_357 : BitVec 32 := 0#32
  let v600 : BitVec 1 := Scalar.cmpi .slt v596 c0_i32_357
  let v601 : BitVec 1 := Scalar.xori v599 v600
  let c0_i32_355 : BitVec 32 := 0#32
  let v598 : BitVec 1 := Scalar.cmpi .ne v597 c0_i32_355
  let v602 : BitVec 1 := Scalar.andi v601 v598
  let v603 : BitVec 32 := Scalar.addi v597 v596
  let v604 : BitVec 32 := Scalar.select v602 v603 v597
  let c0_i32_362 : BitVec 32 := 0#32
  let c32256_i32 : BitVec 32 := 32256#32
  ![v594.toNat, v604.toNat, 0, 32256]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4x2x262144 : Shape := ⟨4, ![16, 4, 2, 262144]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S16x4x2x32768 : Shape := ⟨4, ![16, 4, 2, 32768]⟩

abbrev nBuf : Space → Nat
  | .hbm => 31
  | .vmem => 0
  | .smem => 0
  | _ => 0

abbrev bufTy : (tb : Table) → Fin (tcTables nBuf tb) → BufTy
  | .hbm, ⟨0, _⟩ => ⟨S16x4x2x262144, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S1, .i32⟩
  | .hbm, ⟨17, _⟩ => ⟨S_, .i32⟩
  | .hbm, ⟨18, _⟩ => ⟨S32768x1, .i32⟩
  | .hbm, ⟨19, _⟩ => ⟨S32768x1, .i1⟩
  | .hbm, ⟨20, _⟩ => ⟨S1x1, .i32⟩
  | .hbm, ⟨21, _⟩ => ⟨S32768x1, .i32⟩
  | .hbm, ⟨22, _⟩ => ⟨S32768x1, .i1⟩
  | .hbm, ⟨23, _⟩ => ⟨S32768x1, .i1⟩
  | .hbm, ⟨24, _⟩ => ⟨S_, .i1⟩
  | .hbm, ⟨25, _⟩ => ⟨S32768, .i1⟩
  | .hbm, ⟨26, _⟩ => ⟨S16x4x2x32768, .f32⟩
  | .hbm, ⟨27, _⟩ => ⟨S16x4x2x32768, .i1⟩
  | .hbm, ⟨28, _⟩ => ⟨S_, .f32⟩
  | .hbm, ⟨29, _⟩ => ⟨S16x4x2x32768, .f32⟩
  | .hbm, ⟨30, _⟩ => ⟨S16x4x2x32768, .f32⟩
  | _, _ => ⟨S16x4x2x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Proof.Ops.lean ====
module

public import proofs.«01_k».proof.Proof.Gen.KernelIdeal.Skeleton

/-!
# The kernel's steps, at any slot of its rings

The task of one vector subcore runs two rings of eight slots: `inSlot b` and `outSlot b` are the
two planes of scratch of slot `b`, each with its own semaphore. Every memory operation of the task
is one of the steps below at some slot and some offsets.
-/

@[expose] public section

set_option synthInstance.maxSize 4096

noncomputable section

namespace Cert.KernelIdeal.Dec

open Idealize.ShloMosaic Idealize.SL.Sem Cert.KernelIdeal Cert.KernelIdeal.Gen

variable {F : FTy → Type} [FloatOps F]

/-- The programs of the vector subcore the coordinates name. -/
abbrev TaskProg (F : FTy → Type) [FloatOps F] (i : grid0.Coords) (α : Type) :=
  Prog (TpuEff nD τ sig (Elt F) Λ₀ (.scVector ((i 0).castLE hcore0) ((i 1).castLE hsub0))) α

abbrev XRef := Memref sig .scVector .hbm S16x4x2x262144 .f32
abbrev ORef := Memref sig .scVector .hbm S16x4x2x32768 .f32
abbrev InRef := Memref sig .scVector .vmem S8x2x4096 .f32
abbrev OutRef := Memref sig .scVector .vmem S8x2x512 .f32

theorem in_inb (b : Fin 8) : ∀ a, (![b.val, 0, 0] : Fin 3 → ℕ) a + S1x2x4096.size a ≤ S8x2x4096.size a := by
  revert b; decide
theorem out_inb (b : Fin 8) : ∀ a, (![b.val, 0, 0] : Fin 3 → ℕ) a + S1x2x512.size a ≤ S8x2x512.size a := by
  revert b; decide
theorem sem_inb (b : Fin 8) : ∀ a, (![b.val] : Fin 1 → ℕ) a + S1.size a ≤ S8.size a := by
  revert b; decide

/-- Slot `b` of the ring of fetched blocks. -/
def inSlot (inb : InRef) (b : Fin 8) : Memref sig .scVector .vmem S2x4096 .f32 :=
  (inb.slice (Rect.unit (s := S8x2x4096) ![b.val, 0, 0] S1x2x4096.size (in_inb b)) (fun _ => rfl)).squeeze
    S2x4096 squeezes_S1x2x4096_S2x4096

/-- Slot `b` of the ring of results. -/
def outSlot (outb : OutRef) (b : Fin 8) : Memref sig .scVector .vmem S2x512 .f32 :=
  (outb.slice (Rect.unit (s := S8x2x512) ![b.val, 0, 0] S1x2x512.size (out_inb b)) (fun _ => rfl)).squeeze
    S2x512 squeezes_S1x2x512_S2x512

/-- The semaphore of slot `b`. -/
def semSlot (sems : DmaSems sig S8) (b : Fin 8) : DmaSem sig :=
  ((sems.slice (Rect.unit (s := S8) ![b.val] S1.size (sem_inb b))).squeeze S_ squeezes_S1_S_).sem

abbrev InbX (off : Fin 4 → ℕ) : Prop := ∀ a, off a + S1x1x2x4096.size a ≤ S16x4x2x262144.size a
abbrev InbO (off : Fin 4 → ℕ) : Prop := ∀ a, off a + S1x1x2x512.size a ≤ S16x4x2x32768.size a
abbrev InbS (off : Fin 3 → ℕ) : Prop := ∀ a, off a + S1x1x16.size a ≤ S8x2x512.size a

/-- The block of the argument at `off`. -/
def xBlock (x : XRef) (off : Fin 4 → ℕ) (h : InbX off) : Memref sig .scVector .hbm S2x4096 .f32 :=
  (x.slice (Rect.unit (s := S16x4x2x262144) off S1x1x2x4096.size h) (fun _ => rfl)).squeeze
    S2x4096 squeezes_S1x1x2x4096_S2x4096

/-- The block of the result at `off`. -/
def oBlock (o : ORef) (off : Fin 4 → ℕ) (h : InbO off) : Memref sig .scVector .hbm S2x512 .f32 :=
  (o.slice (Rect.unit (s := S16x4x2x32768) off S1x1x2x512.size h) (fun _ => rfl)).squeeze
    S2x512 squeezes_S1x1x2x512_S2x512

section Steps

variable (i : grid0.Coords) (x : XRef) (o : ORef) (inb : InRef) (outb : OutRef) (insem outsem : DmaSems sig S8)

/-- Start the fetch of the block at `off` into slot `b`. -/
def startIn (b : Fin 8) (off : Fin 4 → ℕ) (h : InbX off) : TaskProg F i PUnit :=
  Prog.lift (.enqueueDma (xBlock x off h) (.here (inSlot inb b)) (.dma (semSlot insem b))
    ((View.wordExact_bits rfl).reshape _ _) ((View.wordExact_bits rfl).reshape _ _) ⟨Or.inl rfl, trivial⟩)

/-- Wait for slot `b`'s fetch. -/
def waitIn (b : Fin 8) (off : Fin 4 → ℕ) (h : InbX off) : TaskProg F i PUnit :=
  Prog.lift (.waitDma2 (semSlot insem b) (xBlock x off h) (inSlot inb b)
    ((View.wordExact_bits rfl).reshape _ _) ((View.wordExact_bits rfl).reshape _ _))

/-- Start the write of slot `b`'s result to the block at `off`. -/
def startOut (b : Fin 8) (off : Fin 4 → ℕ) (h : InbO off) : TaskProg F i PUnit :=
  Prog.lift (.enqueueDma (outSlot outb b) (.here (oBlock o off h)) (.dma (semSlot outsem b))
    ((View.wordExact_bits rfl).reshape _ _) ((View.wordExact_bits rfl).reshape _ _) ⟨Or.inl rfl, trivial⟩)

/-- Wait for slot `b`'s write. -/
def waitOut (b : Fin 8) (off : Fin 4 → ℕ) (h : InbO off) : TaskProg F i PUnit :=
  Prog.lift (.waitDma2 (semSlot outsem b) (outSlot outb b) (oBlock o off h)
    ((View.wordExact_bits rfl).reshape _ _) ((View.wordExact_bits rfl).reshape _ _))

/-- A step taken only where the condition's word is one. -/
def guarded (c : BitVec 1) (p : c = 1#1 → TaskProg F i PUnit) : TaskProg F i PUnit :=
  if h : c = 1#1 then p h else pure ⟨⟩

/-- One plane of slot `b`: its trips gather sixteen words of the row `row` names and store them at
    `off`. -/
def pick (b : Fin 8) (row v : IVec S16 32) (off : Fin k0_t2_loop.trips → Fin 3 → ℕ) (h : ∀ j, InbS (off j)) :
    TaskProg F i PUnit :=
  Scf.Loop.for k0_t2_loop k0_t2_ok ⟨⟩ fun j _ => do
    have cols : IVec S16 32 := k0_pay3 v j
    have hw : k0_chk1 row cols := (← Prog.lift (TpuEff.assume (k0_chk1 row cols) (k0_chk1.dec row cols))).down
    let vals : Vec F S16 .f32 ← SparseCore.vectorLoadIdx (inSlot inb b) ![row, cols] (k0_idx1_inb row cols hw) (View.loads_vmem h_S2x4096)
    let _ : Vec F S1x1x16 .f32 ← Prog.lift (.load outb (Rect.unit (s := S8x2x512) (off j) S1x1x16.size (h j)).toLoadRect (View.loadsAt_vmem h_S1x1x16))
    Prog.lift (.store outb (Rect.unit (s := S8x2x512) (off j) S1x1x16.size (h j)) (shapeCast S1x1x16 vals shapeCasts_S16_S1x1x16) Finset.univ (View.stores_vmem_bits_univ h_S1x1x16 rfl) (.inl rfl))
    pure ⟨⟩

/-- The whole turn of slot `b` in one trip: its last write waited for, its block waited for, both
    planes picked, the write started and the next block's fetch started. -/
def slot (v : IVec S16 32) (b : Fin 8) (c c' : BitVec 1)
    (o₁ : Fin 4 → ℕ) (h₁ : c = 1#1 → InbO o₁) (o₂ : Fin 4 → ℕ) (h₂ : InbX o₂)
    (p₁ : Fin k0_t2_loop.trips → Fin 3 → ℕ) (h₃ : ∀ j, InbS (p₁ j)) (p₂ : Fin k0_t2_loop.trips → Fin 3 → ℕ) (h₄ : ∀ j, InbS (p₂ j))
    (o₃ : Fin 4 → ℕ) (h₅ : InbO o₃) (o₄ : Fin 4 → ℕ) (h₆ : c' = 1#1 → InbX o₄) : TaskProg F i PUnit := do
  guarded i c fun h => waitOut i o outb outsem b o₁ (h₁ h)
  waitIn i x inb insem b o₂ h₂
  pick i inb outb b (broadcast S16 0#32) v p₁ h₃
  pick i inb outb b (broadcast S16 1#32) v p₂ h₄
  startOut i o outb outsem b o₃ h₅
  guarded i c' fun h => startIn i x inb insem b o₄ (h₆ h)

/-- The eight slots in turn. -/
def each (p : Fin 8 → TaskProg F i PUnit) : TaskProg F i PUnit := do
  p 0; p 1; p 2; p 3; p 4; p 5; p 6; p 7

/-- The slots' turns of trip `t`. -/
def turns (v : IVec S16 32) (t : Fin k0_t1_loop.trips) : Fin 8 → TaskProg F i PUnit :=
  ![
    slot i x o inb outb insem outsem v 0 (k0_cond1 t) (k0_cond2 t) (k0_off9 i t) (k0_off9_inb i t) (k0_off10 i t) (k0_off10_inb i t)
      k0_off11 k0_off11_inb k0_off12 k0_off12_inb (k0_off13 i t) (k0_off13_inb i t) (k0_off14 i t) (k0_off14_inb i t),
    slot i x o inb outb insem outsem v 1 (k0_cond3 t) (k0_cond4 t) (k0_off15 i t) (k0_off15_inb i t) (k0_off16 i t) (k0_off16_inb i t)
      k0_off17 k0_off17_inb k0_off18 k0_off18_inb (k0_off19 i t) (k0_off19_inb i t) (k0_off20 i t) (k0_off20_inb i t),
    slot i x o inb outb insem outsem v 2 (k0_cond5 t) (k0_cond6 t) (k0_off21 i t) (k0_off21_inb i t) (k0_off22 i t) (k0_off22_inb i t)
      k0_off23 k0_off23_inb k0_off24 k0_off24_inb (k0_off25 i t) (k0_off25_inb i t) (k0_off26 i t) (k0_off26_inb i t),
    slot i x o inb outb insem outsem v 3 (k0_cond7 t) (k0_cond8 t) (k0_off27 i t) (k0_off27_inb i t) (k0_off28 i t) (k0_off28_inb i t)
      k0_off29 k0_off29_inb k0_off30 k0_off30_inb (k0_off31 i t) (k0_off31_inb i t) (k0_off32 i t) (k0_off32_inb i t),
    slot i x o inb outb insem outsem v 4 (k0_cond9 t) (k0_cond10 t) (k0_off33 i t) (k0_off33_inb i t) (k0_off34 i t) (k0_off34_inb i t)
      k0_off35 k0_off35_inb k0_off36 k0_off36_inb (k0_off37 i t) (k0_off37_inb i t) (k0_off38 i t) (k0_off38_inb i t),
    slot i x o inb outb insem outsem v 5 (k0_cond11 t) (k0_cond12 t) (k0_off39 i t) (k0_off39_inb i t) (k0_off40 i t) (k0_off40_inb i t)
      k0_off41 k0_off41_inb k0_off42 k0_off42_inb (k0_off43 i t) (k0_off43_inb i t) (k0_off44 i t) (k0_off44_inb i t),
    slot i x o inb outb insem outsem v 6 (k0_cond13 t) (k0_cond14 t) (k0_off45 i t) (k0_off45_inb i t) (k0_off46 i t) (k0_off46_inb i t)
      k0_off47 k0_off47_inb k0_off48 k0_off48_inb (k0_off49 i t) (k0_off49_inb i t) (k0_off50 i t) (k0_off50_inb i t),
    slot i x o inb outb insem outsem v 7 (k0_cond15 t) (k0_cond16 t) (k0_off51 i t) (k0_off51_inb i t) (k0_off52 i t) (k0_off52_inb i t)
      k0_off53 k0_off53_inb k0_off54 k0_off54_inb (k0_off55 i t) (k0_off55_inb i t) (k0_off56 i t) (k0_off56_inb i t)]

/-- The first eight fetches. -/
def starts : Fin 8 → TaskProg F i PUnit :=
  ![
    startIn i x inb insem 0 (k0_off1 i) (k0_off1_inb i),
    startIn i x inb insem 1 (k0_off2 i) (k0_off2_inb i),
    startIn i x inb insem 2 (k0_off3 i) (k0_off3_inb i),
    startIn i x inb insem 3 (k0_off4 i) (k0_off4_inb i),
    startIn i x inb insem 4 (k0_off5 i) (k0_off5_inb i),
    startIn i x inb insem 5 (k0_off6 i) (k0_off6_inb i),
    startIn i x inb insem 6 (k0_off7 i) (k0_off7_inb i),
    startIn i x inb insem 7 (k0_off8 i) (k0_off8_inb i)]

/-- The last eight waits. -/
def finishes : Fin 8 → TaskProg F i PUnit :=
  ![
    waitOut i o outb outsem 0 (k0_off57 i) (k0_off57_inb i),
    waitOut i o outb outsem 1 (k0_off58 i) (k0_off58_inb i),
    waitOut i o outb outsem 2 (k0_off59 i) (k0_off59_inb i),
    waitOut i o outb outsem 3 (k0_off60 i) (k0_off60_inb i),
    waitOut i o outb outsem 4 (k0_off61 i) (k0_off61_inb i),
    waitOut i o outb outsem 5 (k0_off62 i) (k0_off62_inb i),
    waitOut i o outb outsem 6 (k0_off63 i) (k0_off63_inb i),
    waitOut i o outb outsem 7 (k0_off64 i) (k0_off64_inb i)]

/-- The task: the first fetches, sixteen rounds of the rings, the last waits. -/
def task : TaskProg F i PUnit := do
  each i (starts i x inb insem)
  Scf.Loop.for k0_t1_loop k0_t1_ok ⟨⟩ fun t _ => each i (turns i x o inb outb insem outsem k0_pay19 t)
  each i (finishes i o outb outsem)

end Steps

end Cert.KernelIdeal.Dec
-- ==== Proof.Places.lean ====
module

public import proofs.«01_k».proof.Proof.Ops
public import Idealize.ShloMosaic.Lib.ValueLayout
public import Idealize.ShloMosaic.Lib.Pipeline.Value

/-!
# Where the blocks lie

The argument is cut into 4096 blocks of 2 x 4096 words and the result into 4096 blocks of 2 x 512
words: block `n` of either lies at leading coordinates `n / 256`, `n / 64 % 4`, and at the
`n % 64`-th stretch of the last axis. Block `n` of the result is every eighth word of block `n` of
the argument.
-/

@[expose] public section

noncomputable section

namespace Cert.KernelIdeal.Dec

open Idealize.ShloMosaic Idealize.ShloMosaic.ValueIdx Cert.KernelIdeal Cert.KernelIdeal.Gen

abbrev xV : XRef := Memref.whole main_arg0_scv
abbrev oV : ORef := Memref.whole main_v0_scv
abbrev inV : InRef := Memref.whole cc0_scratch0
abbrev outV : OutRef := Memref.whole cc0_scratch1

/-! ## The blocks -/

def xOff (n : ℕ) : Fin 4 → ℕ := ![n / 256, n / 64 % 4, 0, 4096 * (n % 64)]
def oOff (n : ℕ) : Fin 4 → ℕ := ![n / 256, n / 64 % 4, 0, 512 * (n % 64)]

theorem xOff_inb (n : Fin 4096) : InbX (xOff n) := by
  have := n.isLt
  intro a; fin_cases a <;> simp [xOff] <;> omega
theorem oOff_inb (n : Fin 4096) : InbO (oOff n) := by
  have := n.isLt
  intro a; fin_cases a <;> simp [oOff] <;> omega

/-- Block `n` of the argument, block `n` of the result. -/
abbrev xBlk (n : Fin 4096) := xBlock xV (xOff n) (xOff_inb n)
abbrev oBlk (n : Fin 4096) := oBlock oV (oOff n) (oOff_inb n)

/-- The block slot `b` of the task at `i` works on in trip `t`. -/
def num (i : grid0.Coords) (b : Fin 8) (t : ℕ) : Fin 4096 :=
  ⟨(128 * (2 * (i 1).val + (i 0).val) + 8 * t + b.val) % 4096, Nat.mod_lt _ (by decide)⟩

/-- The word of the argument the result holds at an index. -/
def wide (y : S16x4x2x32768.Idx) : S16x4x2x262144.Idx :=
  ix4 (n0 := 16) (n1 := 4) (n2 := 2) (n3 := 262144) (y 0) (y 1) (y 2) ⟨8 * (y 3).val, by have : (y 3).val < 32768 := (y 3).isLt; omega⟩

/-! ## Places in the blocks and the slots -/

/-- The words a block or a slot's plane holds, by their place in the whole array. -/
def xAt (off : Fin 4 → ℕ) (h : InbX off) (y : S2x4096.Idx) : S16x4x2x262144.Idx := (xBlock xV off h).view.emb y
def oAt (off : Fin 4 → ℕ) (h : InbO off) (y : S2x512.Idx) : S16x4x2x32768.Idx := (oBlock oV off h).view.emb y
def inAt (b : Fin 8) (y : S2x4096.Idx) : S8x2x4096.Idx := (inSlot inV b).view.emb y
def outAt (b : Fin 8) (y : S2x512.Idx) : S8x2x512.Idx := (outSlot outV b).view.emb y

theorem xAt_val (off : Fin 4 → ℕ) (h : InbX off) (y : S2x4096.Idx) :
    ∀ a, (xAt off h y a).val = (![off 0, off 1, off 2 + (y 0).val, off 3 + (y 1).val] : Fin 4 → ℕ) a := by
  have e : xAt off h y = (Rect.unit (s := S16x4x2x262144) off S1x1x2x4096.size h).emb (ix4 (n0 := 1) (n1 := 1) (n2 := 2) (n3 := 4096) ⟨0, Nat.one_pos⟩ ⟨0, Nat.one_pos⟩ (y 0) (y 1)) :=
    (congrArg (xAt off h) (eq_ix2 y)).trans
      (congrArg (Rect.unit (s := S16x4x2x262144) off S1x1x2x4096.size h).emb (reshapeEquiv_ix2_11ab squeezes_S1x1x2x4096_S2x4096.numel_eq (y 0) (y 1)))
  rw [e]
  intro a; rw [Rect.emb_apply]; fin_cases a <;> simp

theorem oAt_val (off : Fin 4 → ℕ) (h : InbO off) (y : S2x512.Idx) :
    ∀ a, (oAt off h y a).val = (![off 0, off 1, off 2 + (y 0).val, off 3 + (y 1).val] : Fin 4 → ℕ) a := by
  have e : oAt off h y = (Rect.unit (s := S16x4x2x32768) off S1x1x2x512.size h).emb (ix4 (n0 := 1) (n1 := 1) (n2 := 2) (n3 := 512) ⟨0, Nat.one_pos⟩ ⟨0, Nat.one_pos⟩ (y 0) (y 1)) :=
    (congrArg (oAt off h) (eq_ix2 y)).trans
      (congrArg (Rect.unit (s := S16x4x2x32768) off S1x1x2x512.size h).emb (reshapeEquiv_ix2_11ab squeezes_S1x1x2x512_S2x512.numel_eq (y 0) (y 1)))
  rw [e]
  intro a; rw [Rect.emb_apply]; fin_cases a <;> simp

theorem inAt_val (b : Fin 8) (y : S2x4096.Idx) : ∀ a, (inAt b y a).val = (![b.val, (y 0).val, (y 1).val] : Fin 3 → ℕ) a := by
  have e : inAt b y = (Rect.unit (s := S8x2x4096) ![b.val, 0, 0] S1x2x4096.size (in_inb b)).emb (ix3 (n0 := 1) (n1 := 2) (n2 := 4096) ⟨0, Nat.one_pos⟩ (y 0) (y 1)) :=
    (congrArg (inAt b) (eq_ix2 y)).trans
      (congrArg (Rect.unit (s := S8x2x4096) ![b.val, 0, 0] S1x2x4096.size (in_inb b)).emb (reshapeEquiv_ix2_1ab squeezes_S1x2x4096_S2x4096.numel_eq (y 0) (y 1)))
  rw [e]
  intro a; rw [Rect.emb_apply]; fin_cases a <;> simp

theorem outAt_val (b : Fin 8) (y : S2x512.Idx) : ∀ a, (outAt b y a).val = (![b.val, (y 0).val, (y 1).val] : Fin 3 → ℕ) a := by
  have e : outAt b y = (Rect.unit (s := S8x2x512) ![b.val, 0, 0] S1x2x512.size (out_inb b)).emb (ix3 (n0 := 1) (n1 := 2) (n2 := 512) ⟨0, Nat.one_pos⟩ (y 0) (y 1)) :=
    (congrArg (outAt b) (eq_ix2 y)).trans
      (congrArg (Rect.unit (s := S8x2x512) ![b.val, 0, 0] S1x2x512.size (out_inb b)).emb (reshapeEquiv_ix2_1ab squeezes_S1x2x512_S2x512.numel_eq (y 0) (y 1)))
  rw [e]
  intro a; rw [Rect.emb_apply]; fin_cases a <;> simp

/-- Every eighth word of a block. -/
def eighth (y : S2x512.Idx) : S2x4096.Idx :=
  ix2 (n0 := 2) (n1 := 4096) (y 0) ⟨8 * (y 1).val, by have : (y 1).val < 512 := (y 1).isLt; omega⟩

theorem wide_val (y : S16x4x2x32768.Idx) : ∀ a, (wide y a).val = (![(y 0).val, (y 1).val, (y 2).val, 8 * (y 3).val] : Fin 4 → ℕ) a := by
  intro a; fin_cases a <;> rfl

theorem eighth_val (y : S2x512.Idx) : ∀ a, (eighth y a).val = (![(y 0).val, 8 * (y 1).val] : Fin 2 → ℕ) a := by
  intro a; fin_cases a <;> rfl

/-- Block `n` of the result is every eighth word of block `n` of the argument. -/
theorem wide_oAt (n : Fin 4096) (y : S2x512.Idx) : wide (oAt (oOff n) (oOff_inb n) y) = xAt (xOff n) (xOff_inb n) (eighth y) := by
  have h := oAt_val (oOff n) (oOff_inb n) y
  have h0 := h 0; have h1 := h 1; have h2 := h 2; have h3 := h 3
  have e0 := eighth_val y 0; have e1 := eighth_val y 1
  funext a; apply Fin.ext; rw [wide_val, xAt_val, h0, h1, h2, h3, e0, e1]
  fin_cases a <;> simp [xOff, oOff]
  omega

/-! ## The blocks' elements -/

def oSet (n : Fin 4096) : Finset S16x4x2x32768.Idx := (oBlk n).view.set
def inSet (b : Fin 8) : Finset S8x2x4096.Idx := (inSlot inV b).view.set
def outSet (b : Fin 8) : Finset S8x2x512.Idx := (outSlot outV b).view.set

theorem oSet_eq (n : Fin 4096) : oSet n = (Rect.unit (s := S16x4x2x32768) (oOff n) S1x1x2x512.size (oOff_inb n)).set :=
  (View.set_reshape _ squeezes_S1x1x2x512_S2x512.numel_eq).trans (View.set_slice_whole _ _)
theorem inSet_eq (b : Fin 8) : inSet b = (Rect.unit (s := S8x2x4096) ![b.val, 0, 0] S1x2x4096.size (in_inb b)).set :=
  (View.set_reshape _ squeezes_S1x2x4096_S2x4096.numel_eq).trans (View.set_slice_whole _ _)
theorem outSet_eq (b : Fin 8) : outSet b = (Rect.unit (s := S8x2x512) ![b.val, 0, 0] S1x2x512.size (out_inb b)).set :=
  (View.set_reshape _ squeezes_S1x2x512_S2x512.numel_eq).trans (View.set_slice_whole _ _)

theorem mem_oSet (n : Fin 4096) (y : S16x4x2x32768.Idx) :
    y ∈ oSet n ↔ n.val = 256 * (y 0).val + 64 * (y 1).val + (y 3).val / 512 := by
  have h0 : (y 0).val < 16 := (y 0).isLt
  have h1 : (y 1).val < 4 := (y 1).isLt
  have h2 : (y 2).val < 2 := (y 2).isLt
  have h3 : (y 3).val < 32768 := (y 3).isLt
  have hn := n.isLt
  rw [oSet_eq, Rect.mem_set_unit]
  constructor
  · intro h
    have a0 := h 0; have a1 := h 1; have a3 := h 3
    simp [oOff] at a0 a1 a3
    omega
  · intro h a
    fin_cases a <;> simp [oOff] <;> omega

/-- Slot `b`'s elements of a ring are those whose first coordinate is `b`. -/
theorem mem_inSet (b : Fin 8) (y : S8x2x4096.Idx) : y ∈ inSet b ↔ (y 0).val = b.val := by
  have h1 : (y 1).val < 2 := (y 1).isLt
  have h2 : (y 2).val < 4096 := (y 2).isLt
  rw [inSet_eq, Rect.mem_set_unit]
  constructor
  · intro h
    have a0 := h 0
    simp at a0
    omega
  · intro h a
    fin_cases a <;> simp <;> omega

theorem mem_outSet (b : Fin 8) (y : S8x2x512.Idx) : y ∈ outSet b ↔ (y 0).val = b.val := by
  have h1 : (y 1).val < 2 := (y 1).isLt
  have h2 : (y 2).val < 512 := (y 2).isLt
  rw [outSet_eq, Rect.mem_set_unit]
  constructor
  · intro h
    have a0 := h 0
    simp at a0
    omega
  · intro h a
    fin_cases a <;> simp <;> omega

/-- The sixteen words a trip of the inner loop stores. -/
abbrev sixteen (b : Fin 8) (p j : ℕ) (h : InbS ![b.val, p, 16 * j]) : Rect S8x2x512 :=
  Rect.unit (s := S8x2x512) ![b.val, p, 16 * j] S1x1x16.size h

theorem mem_sixteen (b : Fin 8) (p j : ℕ) (h : InbS ![b.val, p, 16 * j]) (y : S2x512.Idx) :
    outAt b y ∈ (sixteen b p j h).set ↔ (y 0).val = p ∧ 16 * j ≤ (y 1).val ∧ (y 1).val < 16 * j + 16 := by
  have g := outAt_val b y
  have g0 := g 0; have g1 := g 1; have g2 := g 2
  simp at g0 g1 g2
  rw [Rect.mem_set_unit]
  constructor
  · intro h
    have a1 := h 1; have a2 := h 2
    simp at a1 a2
    omega
  · intro h a
    fin_cases a <;> simp <;> omega

theorem sixteen_subset (b : Fin 8) (p j : ℕ) (h : InbS ![b.val, p, 16 * j]) : (sixteen b p j h).set ⊆ outSet b := by
  intro y hy
  rw [mem_outSet]
  have a0 := (Rect.mem_set_unit.mp hy) 0
  simp at a0
  omega

end Cert.KernelIdeal.Dec
-- ==== Proof.Model.lean ====
module

public import proofs.«01_k».proof.Proof.Places
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

/-!
# The program as the launch theorem sees it, and what its memory holds
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's own counters, and the exclusive counters of the transfers in flight. -/
abbrev UH : Type := Rounds.URounds (GSem nD τ sig) ℕ
abbrev UU : Type := UH × Counters

/-- The resources a proof about the program speaks of. -/
abbrev Res (F : FTy → Type) : Type := sProp (MT nD τ sig (HIx 1) (Elt F) ℕ UU ℕ)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance

/-! ## The places -/

/-- The argument and the result, as locations of device `d`. -/
abbrev xLoc (d : Dev nD) : Loc nD τ sig := (SparseCore.T d).loc main_arg0
abbrev oLoc (d : Dev nD) : Loc nD τ sig := (SparseCore.T d).loc main_v0

abbrev cV (i : grid0.Coords) : Fin τ.nSC := (i 0).castLE hcore0
abbrev jV (i : grid0.Coords) : Fin τ.nSub := (i 1).castLE hsub0
/-- The vector subcore the coordinates name. -/
abbrev thr (d : Dev nD) (i : grid0.Coords) : Thread nD τ := V d (cV i) (jV i)
abbrev inLoc (d : Dev nD) (i : grid0.Coords) : Loc nD τ sig := (thr d i).loc cc0_scratch0
abbrev outLoc (d : Dev nD) (i : grid0.Coords) : Loc nD τ sig := (thr d i).loc cc0_scratch1

abbrev inSem (b : Fin 8) : DmaSem sig := semSlot cc0_scratch2 b
abbrev outSem (b : Fin 8) : DmaSem sig := semSlot cc0_scratch3 b

/-- What the result is to hold: every eighth word of the argument. -/
def dec (d : Dev nD) (X : Buf (Elt F) (xLoc d)) : Buf (Elt F) (oLoc d) := fun y : S16x4x2x32768.Idx => X (wide y)

/-- Slot `b` of the fetched blocks holds block `n` of the argument. -/
def Filled (d : Dev nD) (i : grid0.Coords) (X : Buf (Elt F) (xLoc d)) (b : Fin 8) (n : Fin 4096) (f : Buf (Elt F) (inLoc d i)) : Prop :=
  ∀ y : S2x4096.Idx, f (inAt b y) = X (xAt (xOff n) (xOff_inb n) y)

/-- Row `p` of slot `b` of the results holds every eighth word of what slot `b` of the fetched blocks holds,
    as far as position `k`. -/
def PickedTo (d : Dev nD) (i : grid0.Coords) (b : Fin 8) (f : Buf (Elt F) (inLoc d i)) (g : Buf (Elt F) (outLoc d i)) (p k : ℕ) : Prop :=
  ∀ y : S2x512.Idx, (y 0).val = p → (y 1).val < k → g (outAt b y) = f (inAt b (eighth y))

/-! ## What is held of them -/

abbrev inPts (d : Dev nD) (i : grid0.Coords) (b : Fin 8) (f : Buf (Elt F) (inLoc d i)) : Res F := inLoc d i ↦[inSet b]{fullShare} f
abbrev outPts (d : Dev nD) (i : grid0.Coords) (b : Fin 8) (f : Buf (Elt F) (outLoc d i)) : Res F := outLoc d i ↦[outSet b]{fullShare} f
abbrev oPts (d : Dev nD) (n : Fin 4096) (f : Buf (Elt F) (oLoc d)) : Res F := oLoc d ↦[oSet n]{fullShare} f

/-- What the landed write of slot `b`'s result leaves in block `n` is every eighth word of the argument. -/
theorem lands_dec (d : Dev nD) (i : grid0.Coords) (X : Buf (Elt F) (xLoc d)) (b : Fin 8) (n : Fin 4096) {f : Buf (Elt F) (inLoc d i)}
    {g : Buf (Elt F) (outLoc d i)} (hf : Filled d i X b n f) (h0 : PickedTo d i b f g 0 512) (h1 : PickedTo d i b f g 1 512) (fd : Buf (Elt F) (oLoc d)) :
    ∀ y ∈ oSet n, (oBlk n).view.write (Elt F) fd ((outSlot outV b).view.read (Elt F) g) Finset.univ y = dec d X y := by
  intro y hy
  obtain ⟨z, -, rfl⟩ := Finset.mem_map.mp hy
  refine (View.write_emb_of_mem _ _ (Finset.mem_univ z)).trans ((cast_eq _ _).trans ((View.read_apply _ _).trans ((cast_eq _ _).trans ?_)))
  show g (outAt b z) = X (wide (oAt (oOff n) (oOff_inb n) z))
  have hz0 : (z 0).val < 2 := (z 0).isLt
  have hz : g (outAt b z) = f (inAt b (eighth z)) := by
    rcases (by omega : (z 0).val = 0 ∨ (z 0).val = 1) with h | h
    · exact h0 z h (z 1).isLt
    · exact h1 z h (z 1).isLt
  rw [hz, hf, wide_oAt]

/-- What a landed fetch of block `n` leaves in slot `b`. -/
theorem lands_filled (d : Dev nD) (i : grid0.Coords) (X : Buf (Elt F) (xLoc d)) (b : Fin 8) (n : Fin 4096) (fd : Buf (Elt F) (inLoc d i)) :
    Filled d i X b n ((inSlot inV b).view.write (Elt F) fd ((xBlk n).view.read (Elt F) X) Finset.univ) := by
  intro y
  exact (View.write_emb_of_mem _ _ (Finset.mem_univ y)).trans ((cast_eq _ _).trans ((View.read_apply _ _).trans (cast_eq _ _)))

end Cert.KernelIdeal.Dec
-- ==== Proof.Steps.lean ====
module

public import proofs.«01_k».proof.Proof.Model

/-!
# The copies and the waits of one slot
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A step of the task at `i` on device `d` runs and ends in `Q`. -/
abbrev runs (d : Dev nD) (i : grid0.Coords) {α : Type} (p : TaskProg F i α) (Q : α → Res F) : Res F :=
  wp frame (wpE (defs₀ (F := F)) 𝒱₀ (thr d i) none) Set.univ p Q

abbrev EC : UEmb Counters (MT nD τ sig (HIx 1) (Elt F) ℕ UU ℕ) := countersEmb

/-- The units a landed copy is counted by. -/
abbrev inUnits (b : Fin 8) : ℕ := (inSlot inV b).view.dmaCredit
abbrev outUnits : ℕ := (oBlk 0).view.dmaCredit

def xSet (n : Fin 4096) : Finset S16x4x2x262144.Idx := (xBlk n).view.set

abbrev xPts (d : Dev nD) (q : PosShare TreeShare) (X : Buf (Elt F) (xLoc d)) : Res F := xLoc d ↦{q} X
abbrev xPart (d : Dev nD) (q : PosShare TreeShare) (n : Fin 4096) (X : Buf (Elt F) (xLoc d)) : Res F := xLoc d ↦[xSet n]{q} X
abbrev xRest (d : Dev nD) (q : PosShare TreeShare) (n : Fin 4096) (X : Buf (Elt F) (xLoc d)) : Res F := xLoc d ↦[Finset.univ \ xSet n]{q} X

variable (d : Dev nD) (i : grid0.Coords) (q : PosShare TreeShare) (X : Buf (Elt F) (xLoc d)) (b : Fin 8) (n : Fin 4096)

/-- Slot `b`'s fetch of block `n`, on its way. -/
def inFlight : Res F :=
  Transfers.Flight EC (thr d i) (.dma (inSem b)) none (inUnits b)
    iprop((∃ f, ⌜Filled d i X b n f⌝ ∗ inPts d i b f) ∗ xPart d q n X)

/-- Slot `b`'s write of block `n`, on its way. -/
def outFlight : Res F :=
  Transfers.Flight EC (thr d i) (.dma (outSem b)) none outUnits
    iprop(oPts d n (dec d X) ∗ ∃ g, outPts d i b g)

theorem wp_startIn (off : Fin 4 → ℕ) (h : InbX off) (e : off = xOff n) (f : Buf (Elt F) (inLoc d i)) (Q : PUnit → Res F) :
    iprop(inPts d i b f ∗ semVal (thr d i, .dma (inSem b)) 0 ∗ xPts d q X)
      ⊢ iprop((iprop(inFlight d i q X b n ∗ xRest d q n X) -∗ Q ⟨⟩) -∗ runs d i (startIn i xV inV cc0_scratch2 b off h) Q) := by
  subst e
  unfold startIn Prog.lift
  iintro ⟨Hin, Hsem, Hx⟩ HQ
  ihave Hx' := (pointsTo_split_subset (Finset.subset_univ (xSet n))).1 $$ Hx
  icases Hx' with ⟨Hp, Hr⟩
  iapply (Transfers.wp_dmaLocal EC 𝒱₀ (thr d i) none (src := xBlk n) (dst := inSlot inV b) (q := q) (fs := X) (Sd := inSet b) (fd := f)
    none (inUnits b) rfl (View.dmaCredit_pos _ (by decide)) (Finset.Subset.refl _)) $$ [Hp Hin Hsem]
  · isplitl [Hp]; · iexact Hp
    isplitl [Hin]; · iexact Hin
    iexact Hsem
  iintro Hfl
  rw [wp_ret]; imodintro
  iapply HQ
  isplitr [Hr]
  · unfold inFlight
    iapply (Transfers.Flight_mono EC (thr d i) ?_) $$ Hfl
    iintro ⟨Hin, Hp⟩
    isplitl [Hin]
    · iexists _; isplitr
      · ipureintro; exact lands_filled d i X b n f
      · iexact Hin
    · iexact Hp
  · iexact Hr

/-- What a wait needs and keeps: leave to wait on any semaphore of the subcore, and the waits so far. -/
def mayWait (O : CellTallies nD τ sig (HIx 1)) (W : Waits sig (HIx 1)) : Res F :=
  iprop(Transfers.MayWaits (thr d i) none O ∗ ∃ W', ⌜∀ p ∈ W', p ∈ W ∨ p.2 = none⌝ ∗ owes (thr d i) O W')

variable (O : CellTallies nD τ sig (HIx 1)) (W : Waits sig (HIx 1))

theorem wp_waitIn (off : Fin 4 → ℕ) (h : InbX off) (Q : PUnit → Res F) :
    iprop(mayWait d i O W ∗ inFlight d i q X b n ∗ xRest d q n X)
      ⊢ iprop((∀ f, ⌜Filled d i X b n f⌝ -∗ iprop(mayWait d i O W ∗ inPts d i b f ∗ semVal (thr d i, .dma (inSem b)) 0 ∗ xPts d q X) -∗ Q ⟨⟩)
          -∗ runs d i (waitIn i xV inV cc0_scratch2 b off h) Q) := by
  unfold waitIn Prog.lift mayWait
  iintro ⟨⟨#Hmw, %W', %hW', HO⟩, Hfl, Hr⟩ HQ
  unfold inFlight
  iapply (Transfers.wp_waitLocalO EC 𝒱₀ (thr d i) none none (srcw := xBlock xV off h) (dstw := inSlot inV b)
    (hsrc := (View.wordExact_bits rfl).reshape _ _) (hdst := (View.wordExact_bits rfl).reshape _ _) rfl) $$ [Hfl HO]
  · isplitl [Hfl]; · iexact Hfl
    isplitl [HO]; · iexact HO
    iapply (Transfers.MayWaits.elim (SemLoc.dma (inSem b))); iexact Hmw
  iintro ⟨⟨⟨%f, %hf, Hin⟩, Hp⟩, Hsem, HO⟩
  rw [wp_ret]; imodintro
  iapply HQ $$ %f %hf
  isplitl [HO]
  · isplitr; · iexact Hmw
    iexists (insert (SemLoc.dma (inSem b), none) W'); isplitr
    · ipureintro; intro p hp
      rcases Finset.mem_insert.mp hp with rfl | hp
      · exact .inr rfl
      · exact hW' p hp
    · iexact HO
  isplitl [Hin]; · iexact Hin
  isplitl [Hsem]; · iexact Hsem
  iapply (pointsTo_split_subset (Finset.subset_univ (xSet n))).2
  isplitl [Hp]; · iexact Hp
  iexact Hr

theorem wp_startOut (off : Fin 4 → ℕ) (h : InbO off) (e : off = oOff n) (f : Buf (Elt F) (inLoc d i)) (g : Buf (Elt F) (outLoc d i))
    (hf : Filled d i X b n f) (h0 : PickedTo d i b f g 0 512) (h1 : PickedTo d i b f g 1 512) (fd : Buf (Elt F) (oLoc d)) (Q : PUnit → Res F) :
    iprop(outPts d i b g ∗ semVal (thr d i, .dma (outSem b)) 0 ∗ oPts d n fd)
      ⊢ iprop((outFlight d i X b n -∗ Q ⟨⟩) -∗ runs d i (startOut i oV outV cc0_scratch3 b off h) Q) := by
  subst e
  unfold startOut Prog.lift
  iintro ⟨Hout, Hsem, Ho⟩ HQ
  iapply (Transfers.wp_dmaLocal EC 𝒱₀ (thr d i) none (src := outSlot outV b) (dst := oBlk n) (q := fullShare) (fs := g) (Sd := oSet n) (fd := fd)
    none outUnits rfl (View.dmaCredit_pos _ (by decide)) (Finset.Subset.refl _)) $$ [Hout Ho Hsem]
  · isplitl [Hout]; · iexact Hout
    isplitl [Ho]; · iexact Ho
    iexact Hsem
  iintro Hfl
  rw [wp_ret]; imodintro
  iapply HQ
  unfold outFlight
  iapply (Transfers.Flight_mono EC (thr d i) ?_) $$ Hfl
  refine sep_mono (Entails.of_eq ?_) (exists_intro_trans g Entails.rfl)
  exact pointsTo_congr (lands_dec d i X b n hf h0 h1 fd)

theorem wp_waitOut (off : Fin 4 → ℕ) (h : InbO off) (Q : PUnit → Res F) :
    iprop(mayWait d i O W ∗ outFlight d i X b n)
      ⊢ iprop((∀ g, iprop(mayWait d i O W ∗ outPts d i b g ∗ semVal (thr d i, .dma (outSem b)) 0 ∗ oPts d n (dec d X)) -∗ Q ⟨⟩)
          -∗ runs d i (waitOut i oV outV cc0_scratch3 b off h) Q) := by
  unfold waitOut Prog.lift mayWait
  iintro ⟨⟨#Hmw, %W', %hW', HO⟩, Hfl⟩ HQ
  unfold outFlight
  iapply (Transfers.wp_waitLocalO EC 𝒱₀ (thr d i) none none (srcw := outSlot outV b) (dstw := oBlock oV off h)
    (hsrc := (View.wordExact_bits rfl).reshape _ _) (hdst := (View.wordExact_bits rfl).reshape _ _) rfl) $$ [Hfl HO]
  · isplitl [Hfl]; · iexact Hfl
    isplitl [HO]; · iexact HO
    iapply (Transfers.MayWaits.elim (SemLoc.dma (outSem b))); iexact Hmw
  iintro ⟨⟨Ho, %g, Hout⟩, Hsem, HO⟩
  rw [wp_ret]; imodintro
  iapply HQ $$ %g
  isplitl [HO]
  · isplitr; · iexact Hmw
    iexists (insert (SemLoc.dma (outSem b), none) W'); isplitr
    · ipureintro; intro p hp
      rcases Finset.mem_insert.mp hp with rfl | hp
      · exact .inr rfl
      · exact hW' p hp
    · iexact HO
  isplitl [Hout]; · iexact Hout
  isplitl [Hsem]; · iexact Hsem
  iexact Ho

end Cert.KernelIdeal.Dec
-- ==== Proof.Pick.lean ====
module

public import proofs.«01_k».proof.Proof.Steps

/-!
# Picking every eighth word of a plane
-/

@[expose] public section

noncomputable section

namespace Cert.KernelIdeal.Dec

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The lanes of a trip's index vector: eight words apart, from the trip's first. -/
abbrev cols (j : Fin k0_t2_loop.trips) : IVec S16 32 := k0_pay3 k0_pay19 j

theorem cols_val : ∀ (j : Fin k0_t2_loop.trips) (l : Fin 16), (cols j (ix1 (n := 16) l)).toNat = 128 * j.val + 8 * l.val := by
  decide +kernel

theorem lane_eq : ∀ l : Fin 16, Shape.reshapeEquiv shapeCasts_S16_S1x1x16 (ix3 (n0 := 1) (n1 := 1) (n2 := 16) ⟨0, Nat.one_pos⟩ ⟨0, Nat.one_pos⟩ l) = ix1 (n := 16) l := by
  decide +kernel

/-- Every lane's index is inside the plane. -/
theorem cols_inb (p : Fin 2) (w : BitVec 32) (hw : w.toNat = p.val) (j : Fin k0_t2_loop.trips) : k0_chk1 (broadcast S16 w) (cols j) := by
  intro a x
  have hj : j.val < 32 := j.isLt
  obtain ⟨l, rfl⟩ : ∃ l : Fin 16, x = ix1 (n := 16) l := ⟨x 0, eq_ix1 x⟩
  have hc := cols_val j l
  fin_cases a
  · show w.toNat < 2
    omega
  · show (cols j (ix1 (n := 16) l)).toNat < 4096
    omega

variable (d : Dev nD) (i : grid0.Coords) (b : Fin 8)

/-- What a trip gathers, from what the slot holds. -/
def gathered (f : Buf (Elt F) (inLoc d i)) (w : BitVec 32) (j : Fin k0_t2_loop.trips) (h : k0_chk1 (broadcast S16 w) (cols j)) : Vec F S16 .f32 :=
  loadIdx (((inSlot inV b).access (.whole S2x4096)).read (Elt F) f) ![broadcast S16 w, cols j] (k0_idx1_inb _ _ h)

omit [FloatOps F] in
/-- Reading a view through its whole rectangle reads the view. -/
theorem read_whole {κ : Kind} {sp : Space} {s : Shape} {e : EltTy} (v : View sig κ sp s e) (f : v.ty.Contents (Elt F)) (z : s.Idx) :
    (v.slice (.whole s)).read (Elt F) f z = v.read (Elt F) f z := by
  show _root_.cast _ (f (v.emb ((Rect.whole s).emb z))) = _root_.cast _ (f (v.emb z))
  rw [Rect.emb_whole_apply]

omit [FloatOps F] in
theorem plane_read (f : Buf (Elt F) (inLoc d i)) (z : S2x4096.Idx) :
    ((inSlot inV b).access (.whole S2x4096)).read (Elt F) f z = f (inAt b z) :=
  (read_whole (inSlot inV b).view f z).trans ((View.read_apply (v := (inSlot inV b).view) f z).trans (cast_eq _ _))

theorem gathered_apply (f : Buf (Elt F) (inLoc d i)) (p : Fin 2) (w : BitVec 32) (hw : w.toNat = p.val) (j : Fin k0_t2_loop.trips)
    (h : k0_chk1 (broadcast S16 w) (cols j)) (y : S2x512.Idx) (hp : (y 0).val = p.val) (l : Fin 16) (hl : (y 1).val = 16 * j.val + l.val) :
    gathered d i b f w j h (ix1 (n := 16) l) = f (inAt b (eighth y)) := by
  have hc := cols_val j l
  refine (plane_read d i b f _).trans (congrArg (fun z => f (inAt b z)) ?_)
  funext a; apply Fin.ext; rw [eighth_val]
  fin_cases a
  · show w.toNat = (y 0).val
    omega
  · show (cols j (ix1 (n := 16) l)).toNat = 8 * (y 1).val
    omega

/-- What the trip's store leaves. -/
def stored (g : Buf (Elt F) (outLoc d i)) (p j : ℕ) (h : InbS ![b.val, p, 16 * j]) (w : Vec F S16 .f32) : Buf (Elt F) (outLoc d i) :=
  (outV.access (sixteen b p j h)).write (Elt F) g (shapeCast S1x1x16 w shapeCasts_S16_S1x1x16) Finset.univ

omit [FloatOps F] in
theorem stored_new (g : Buf (Elt F) (outLoc d i)) (p j : ℕ) (h : InbS ![b.val, p, 16 * j]) (w : Vec F S16 .f32) (y : S2x512.Idx) (hp : (y 0).val = p)
    (l : Fin 16) (hl : (y 1).val = 16 * j + l.val) : stored d i b g p j h w (outAt b y) = w (ix1 (n := 16) l) := by
  have e : outAt b y = (sixteen b p j h).emb (ix3 (n0 := 1) (n1 := 1) (n2 := 16) ⟨0, Nat.one_pos⟩ ⟨0, Nat.one_pos⟩ l) := by
    funext a; apply Fin.ext; rw [outAt_val, Rect.emb_apply]
    fin_cases a <;> simp <;> omega
  rw [e]
  refine (View.write_emb_of_mem (v := outV.access (sixteen b p j h)) g _ (Finset.mem_univ _)).trans ((cast_eq _ _).trans ?_)
  exact congrArg w (lane_eq l)

omit [FloatOps F] in
theorem stored_old (g : Buf (Elt F) (outLoc d i)) (p j : ℕ) (h : InbS ![b.val, p, 16 * j]) (w : Vec F S16 .f32) (y : S2x512.Idx)
    (hy : ¬((y 0).val = p ∧ 16 * j ≤ (y 1).val ∧ (y 1).val < 16 * j + 16)) : stored d i b g p j h w (outAt b y) = g (outAt b y) := by
  refine View.write_of_not_mem (v := outV.access (sixteen b p j h)) g _ _ fun hm => hy ?_
  exact (mem_sixteen b p j h y).mp ((congrArg (fun s : Finset S8x2x512.Idx => outAt b y ∈ s) (View.set_slice_whole cc0_scratch1 (sixteen b p j h))).mp hm)

/-- A row of slot `b`'s result, picked as far as trip `k`; the other row as it was. -/
def Picking (f : Buf (Elt F) (inLoc d i)) (g₀ g : Buf (Elt F) (outLoc d i)) (p : Fin 2) (k : ℕ) : Prop :=
  PickedTo d i b f g p.val (16 * k) ∧ ∀ y : S2x512.Idx, (y 0).val ≠ p.val → g (outAt b y) = g₀ (outAt b y)

theorem Picking.step {f : Buf (Elt F) (inLoc d i)} {g₀ g : Buf (Elt F) (outLoc d i)} {p : Fin 2} {j : Fin k0_t2_loop.trips} (hg : Picking d i b f g₀ g p j.val)
    (w : BitVec 32) (hw : w.toNat = p.val) (hc : k0_chk1 (broadcast S16 w) (cols j)) (h : InbS ![b.val, p.val, 16 * j.val]) :
    Picking d i b f g₀ (stored d i b g p.val j.val h (gathered d i b f w j hc)) p (j.val + 1) := by
  refine ⟨fun y hp hk => ?_, fun y hp => ?_⟩
  · by_cases hlo : 16 * j.val ≤ (y 1).val
    · have hl : (y 1).val - 16 * j.val < 16 := by omega
      have hy : (y 1).val = 16 * j.val + (⟨(y 1).val - 16 * j.val, hl⟩ : Fin 16).val := by simp; omega
      exact (stored_new d i b g _ _ h _ y hp ⟨_, hl⟩ hy).trans (gathered_apply d i b f p w hw j hc y hp _ hy)
    · exact (stored_old d i b g _ _ h _ y fun hh => hlo hh.2.1).trans (hg.1 y hp (by omega))
  · exact (stored_old d i b g _ _ h _ y fun hh => hp hh.1).trans (hg.2 y hp)

theorem sixteen_access (p j : ℕ) (h : InbS ![b.val, p, 16 * j]) : (outV.access (sixteen b p j h)).set ⊆ outSet b := fun y hy =>
  sixteen_subset b p j h ((congrArg (fun s : Finset S8x2x512.Idx => y ∈ s) (View.set_slice_whole cc0_scratch1 (sixteen b p j h))).mp hy)

theorem wp_pick (p : Fin 2) (w : BitVec 32) (hw : w.toNat = p.val) (off : Fin k0_t2_loop.trips → Fin 3 → ℕ) (h : ∀ j, InbS (off j))
    (e : ∀ j, off j = ![b.val, p.val, 16 * j.val]) (f : Buf (Elt F) (inLoc d i)) (g₀ : Buf (Elt F) (outLoc d i)) (Q : PUnit → Res F) :
    iprop(inPts d i b f ∗ outPts d i b g₀)
      ⊢ iprop((∀ g, ⌜Picking d i b f g₀ g p 32⌝ -∗ iprop(inPts d i b f ∗ outPts d i b g) -∗ Q ⟨⟩)
          -∗ runs d i (pick i inV outV b (broadcast S16 w) k0_pay19 off h) Q) := by
  obtain rfl : off = fun j => ![b.val, p.val, 16 * j.val] := funext e
  unfold pick
  iintro ⟨Hin, Hout⟩ HQ
  iapply (Scf.wp_for _ _ _ _ _ _ _ _ _ (fun k _ => iprop(∃ g, ⌜Picking d i b f g₀ g p k⌝ ∗ inPts d i b f ∗ outPts d i b g)) ?_) $$ [Hin Hout HQ]
  · intro j _
    have hc := cols_inb p w hw j
    iintro ⟨%g, %hg, Hin, Hout⟩
    simp only [Prog.bind_lift, Prog.pure_eq_ret]
    rw [wp_assume_of _ _ _ _ hc]
    iapply (SparseCore.wp_vectorLoadIdx 𝒱₀ (thr d i) none Set.univ (base := inSlot inV b) (S := inSet b) (q := fullShare) (View.set_slice_subset _ _)) $$ [Hin]
    · iexact Hin
    iintro Hin
    iapply (wp_load 𝒱₀ (thr d i) none Set.univ (m := outV) (S := outSet b) (q := fullShare) ?_) $$ [Hout]
    · exact (Finset.Subset.antisymm_iff.mp (View.set_slice outV.view _)).2.trans (sixteen_access b p.val j.val (h j))
    · iexact Hout
    iintro Hout
    iapply (wp_store 𝒱₀ (thr d i) none Set.univ (m := outV) (r := sixteen b p.val j.val (h j)) (Mk := Finset.univ) (S := outSet b) ?_) $$ [Hout]
    · exact sixteen_access b p.val j.val (h j)
    · iexact Hout
    iintro Hout
    rw [wp_ret]; imodintro
    iexists (stored d i b g p.val j.val (h j) (gathered d i b f w j hc))
    isplitr
    · ipureintro; exact hg.step d i b w hw hc (h j)
    isplitl [Hin]; · iexact Hin
    iexact Hout
  · isplitl [Hin Hout]
    · iexists g₀; isplitr
      · ipureintro; exact ⟨fun y _ hk => absurd hk (by omega), fun _ _ => rfl⟩
      isplitl [Hin]; · iexact Hin
      iexact Hout
    · iintro %_ ⟨%g, %hg, Hin, Hout⟩
      iapply HQ $$ %g %hg
      isplitl [Hin]; · iexact Hin
      iexact Hout

end Cert.KernelIdeal.Dec
-- ==== Proof.Offsets.lean ====
module

public import proofs.«01_k».proof.Proof.Places

/-!
# The printed offsets in closed form

The offsets are words a task computes from its coordinates and its trip. Each family below lists the
eight slots' offsets; its closed form is checked at every task and trip.
-/

@[expose] public section

noncomputable section

namespace Cert.KernelIdeal.Dec

open Idealize.ShloMosaic Cert.KernelIdeal Cert.KernelIdeal.Gen

/-- Whether slot `b` has a write to wait for in a trip, and whether it has a next block to fetch. -/
abbrev owed : Fin 8 → Fin k0_t1_loop.trips → BitVec 1 := ![k0_cond1, k0_cond3, k0_cond5, k0_cond7, k0_cond9, k0_cond11, k0_cond13, k0_cond15]
abbrev more : Fin 8 → Fin k0_t1_loop.trips → BitVec 1 := ![k0_cond2, k0_cond4, k0_cond6, k0_cond8, k0_cond10, k0_cond12, k0_cond14, k0_cond16]
/-- Where the first blocks are fetched from, where a trip's next block is, and where its result goes. -/
abbrev firstOff : Fin 8 → grid0.Coords → Fin 4 → ℕ := ![k0_off1, k0_off2, k0_off3, k0_off4, k0_off5, k0_off6, k0_off7, k0_off8]
abbrev nextOff : Fin 8 → grid0.Coords → Fin k0_t1_loop.trips → Fin 4 → ℕ := ![k0_off14, k0_off20, k0_off26, k0_off32, k0_off38, k0_off44, k0_off50, k0_off56]
abbrev putOff : Fin 8 → grid0.Coords → Fin k0_t1_loop.trips → Fin 4 → ℕ := ![k0_off13, k0_off19, k0_off25, k0_off31, k0_off37, k0_off43, k0_off49, k0_off55]

theorem owed_iff : ∀ b t, owed b t = 1#1 ↔ 0 < t.val := by decide +kernel
theorem more_iff : ∀ b t, more b t = 1#1 ↔ t.val + 1 < 16 := by decide +kernel
theorem firstOff_eq : ∀ b i, firstOff b i = xOff (num i b 0) := by decide +kernel
theorem putOff_eq : ∀ b i (t : Fin k0_t1_loop.trips), putOff b i t = oOff (num i b t.val) := by decide +kernel
theorem nextOff_eq : ∀ b i (t : Fin k0_t1_loop.trips), more b t = 1#1 → nextOff b i t = xOff (num i b (t.val + 1)) := by decide +kernel

end Cert.KernelIdeal.Dec
-- ==== Proof.Slots.lean ====
module

public import proofs.«01_k».proof.Proof.Pick
public import proofs.«01_k».proof.Proof.Offsets

/-!
# The turn of one slot

A slot goes through its sixteen blocks in order. Between two turns its next block is on its way in
and its last result on its way out.
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) (i : grid0.Coords) (q : PosShare TreeShare) (X : Buf (Elt F) (xLoc d)) (o₀ : Buf (Elt F) (oLoc d)) (b : Fin 8)

/-- A slot with nothing on its way, in and out. -/
def inIdle : Res F := iprop((∃ f, inPts d i b f) ∗ semVal (thr d i, .dma (inSem b)) 0 ∗ xPts d q X)
def outIdle : Res F := iprop((∃ g, outPts d i b g) ∗ semVal (thr d i, .dma (outSem b)) 0)

/-- The slot before its turn in trip `t`: its block on its way, while it has one. -/
def inAwait (t : ℕ) : Res F :=
  if t < 16 then iprop(inFlight d i q X b (num i b t) ∗ xRest d q (num i b t) X) else inIdle d i q X b

/-- And the result of its turn before, on its way. -/
def outAwait : ℕ → Res F
  | 0 => outIdle d i b
  | t + 1 => outFlight d i X b (num i b t)

/-- What is held of the slot's blocks of the result: those before `lo` written, those from `hi` on
    untouched, the ones between lent to a write on its way. -/
def block (lo hi s : ℕ) : Res F :=
  if s < lo then oPts d (num i b s) (dec d X) else if s < hi then iprop(emp) else oPts d (num i b s) o₀
def blocks (lo hi : ℕ) : Res F := bigSep Finset.univ fun s : Fin 16 => block d i X o₀ b lo hi s.val

omit [FloatOps F] in
theorem nothing_sep (P : Res F) : iprop(emp ∗ P) = P := equiv_iff.mp Idealize.SL.BI.emp_sep

omit [FloatOps F] in
/-- The bounds moving past block `t` or not, the other blocks are held as they were. -/
theorem blocks_split {t : ℕ} (ht : t < 16) {lo hi : ℕ} (hlo : lo = t ∨ lo = t + 1) (hhi : hi = t ∨ hi = t + 1) :
    blocks d i X o₀ b lo hi = iprop(block d i X o₀ b lo hi t ∗ bigSep (Finset.univ.erase (⟨t, ht⟩ : Fin 16)) fun s : Fin 16 => block d i X o₀ b t t s.val) := by
  unfold blocks
  rw [SparseCore.bigSep_erase' (Finset.mem_univ (⟨t, ht⟩ : Fin 16))]
  congr 1
  refine bigSep_congr fun s hs => ?_
  have hne : s.val ≠ t := fun h => (Finset.mem_erase.mp hs).1 (Fin.ext h)
  unfold block
  simp only [show (s.val < lo) = (s.val < t) from propext ⟨fun h => by omega, fun h => by omega⟩,
    show (s.val < hi) = (s.val < t) from propext ⟨fun h => by omega, fun h => by omega⟩]

omit [FloatOps F] in
/-- The next block is taken out to be written, -/
theorem blocks_take {t : ℕ} (ht : t < 16) : blocks d i X o₀ b t t = iprop(oPts d (num i b t) o₀ ∗ blocks d i X o₀ b t (t + 1)) := by
  rw [blocks_split d i X o₀ b ht (.inl rfl) (.inl rfl), blocks_split d i X o₀ b ht (.inl rfl) (.inr rfl),
    show block d i X o₀ b t (t + 1) t = iprop(emp) from by unfold block; simp, nothing_sep,
    show block d i X o₀ b t t t = oPts d (num i b t) o₀ from by unfold block; simp]

omit [FloatOps F] in
/-- and is put back written. -/
theorem blocks_put {t : ℕ} (ht : t < 16) : iprop(oPts d (num i b t) (dec d X) ∗ blocks d i X o₀ b t (t + 1)) = blocks d i X o₀ b (t + 1) (t + 1) := by
  rw [blocks_split d i X o₀ b ht (.inl rfl) (.inr rfl), blocks_split d i X o₀ b ht (.inr rfl) (.inr rfl),
    show block d i X o₀ b t (t + 1) t = iprop(emp) from by unfold block; simp, nothing_sep,
    show block d i X o₀ b (t + 1) (t + 1) t = oPts d (num i b t) (dec d X) from by unfold block; simp]

/-- The slot before any fetch, before its turn in trip `t`, and at the end. -/
def atStart : Res F := iprop(inIdle d i q X b ∗ outIdle d i b ∗ blocks d i X o₀ b 0 0)
def atTurn (t : ℕ) : Res F := iprop(inAwait d i q X b t ∗ outAwait d i X b t ∗ blocks d i X o₀ b (t - 1) t)
def atEnd : Res F := iprop(inIdle d i q X b ∗ outIdle d i b ∗ blocks d i X o₀ b 16 16)

variable (O : CellTallies nD τ sig (HIx 1)) (W : Waits sig (HIx 1))

/-- The slot's last write, if there is one, waited for. -/
theorem wp_clear {t : ℕ} (ht : t ≤ 16) (c : BitVec 1) (hc : c = 1#1 ↔ 0 < t) (off : Fin 4 → ℕ) (h : c = 1#1 → InbO off) (Q : PUnit → Res F) :
    iprop(mayWait d i O W ∗ outAwait d i X b t ∗ blocks d i X o₀ b (t - 1) t)
      ⊢ iprop((iprop(mayWait d i O W ∗ outIdle d i b ∗ blocks d i X o₀ b t t) -∗ Q ⟨⟩)
          -∗ runs d i (guarded i c fun hh => waitOut i oV outV cc0_scratch3 b off (h hh)) Q) := by
  cases t with
  | zero =>
    rw [show guarded (F := F) i c (fun hh => waitOut i oV outV cc0_scratch3 b off (h hh)) = pure ⟨⟩ from dif_neg fun hh => absurd (hc.mp hh) (lt_irrefl 0)]
    unfold runs; rw [Prog.pure_eq_ret, wp_ret, outAwait]
    iintro ⟨HR, Hout, Hb⟩ HQ
    imodintro
    iapply HQ
    isplitl [HR]; · iexact HR
    isplitl [Hout]; · iexact Hout
    iexact Hb
  | succ t =>
    rw [show guarded (F := F) i c (fun hh => waitOut i oV outV cc0_scratch3 b off (h hh)) = waitOut i oV outV cc0_scratch3 b off (h (hc.mpr t.succ_pos)) from dif_pos (hc.mpr t.succ_pos)]
    rw [outAwait]
    iintro ⟨HR, Hout, Hb⟩ HQ
    iapply (wp_waitOut d i X b (num i b t) O W off _ Q) $$ [HR Hout]
    · isplitl [HR]; · iexact HR
      iexact Hout
    iintro %g ⟨HR, Hg, Hsem, Ho⟩
    iapply HQ
    isplitl [HR]; · iexact HR
    isplitl [Hg Hsem]
    · unfold outIdle
      isplitl [Hg]; · iexists g; iexact Hg
      iexact Hsem
    · iapply (Entails.of_eq (blocks_put d i X o₀ b (t := t) (by omega)))
      isplitl [Ho]; · iexact Ho
      iexact Hb

/-- The slot's next block, if there is one, sent for. -/
theorem wp_next {t : ℕ} (c : BitVec 1) (hc : c = 1#1 ↔ t < 16) (off : Fin 4 → ℕ) (h : c = 1#1 → InbX off)
    (e : c = 1#1 → off = xOff (num i b t)) (Q : PUnit → Res F) :
    inIdle d i q X b
      ⊢ iprop((inAwait d i q X b t -∗ Q ⟨⟩) -∗ runs d i (guarded i c fun hh => startIn i xV inV cc0_scratch2 b off (h hh)) Q) := by
  unfold inAwait
  by_cases ht : t < 16
  · rw [show guarded (F := F) i c (fun hh => startIn i xV inV cc0_scratch2 b off (h hh)) = startIn i xV inV cc0_scratch2 b off (h (hc.mpr ht)) from dif_pos (hc.mpr ht), if_pos ht]
    unfold inIdle
    iintro ⟨⟨%f, Hin⟩, Hsem, Hx⟩ HQ
    iapply (wp_startIn d i q X b (num i b t) off _ (e (hc.mpr ht)) f Q) $$ [Hin Hsem Hx]
    · isplitl [Hin]; · iexact Hin
      isplitl [Hsem]; · iexact Hsem
      iexact Hx
    iexact HQ
  · rw [show guarded (F := F) i c (fun hh => startIn i xV inV cc0_scratch2 b off (h hh)) = pure ⟨⟩ from dif_neg fun hh => ht (hc.mp hh), if_neg ht]
    unfold runs; rw [Prog.pure_eq_ret, wp_ret]
    iintro Hi HQ
    imodintro
    iapply HQ; iexact Hi

/-- One turn of a slot takes it from before its block of trip `t` to before the next. -/
theorem wp_slot {t : ℕ} (ht : t < 16) (c c' : BitVec 1) (hc : c = 1#1 ↔ 0 < t) (hc' : c' = 1#1 ↔ t + 1 < 16)
    (o₁ : Fin 4 → ℕ) (h₁ : c = 1#1 → InbO o₁) (o₂ : Fin 4 → ℕ) (h₂ : InbX o₂)
    (p₁ : Fin k0_t2_loop.trips → Fin 3 → ℕ) (h₃ : ∀ j, InbS (p₁ j)) (p₂ : Fin k0_t2_loop.trips → Fin 3 → ℕ) (h₄ : ∀ j, InbS (p₂ j))
    (o₃ : Fin 4 → ℕ) (h₅ : InbO o₃) (o₄ : Fin 4 → ℕ) (h₆ : c' = 1#1 → InbX o₄)
    (e₁ : ∀ j, p₁ j = ![b.val, 0, 16 * j.val]) (e₂ : ∀ j, p₂ j = ![b.val, 1, 16 * j.val])
    (e₃ : o₃ = oOff (num i b t)) (e₄ : c' = 1#1 → o₄ = xOff (num i b (t + 1))) :
    iprop(mayWait d i O W ∗ atTurn d i q X o₀ b t)
      ⊢ runs d i (slot i xV oV inV outV cc0_scratch2 cc0_scratch3 k0_pay19 b c c' o₁ h₁ o₂ h₂ p₁ h₃ p₂ h₄ o₃ h₅ o₄ h₆)
          fun _ => iprop(mayWait d i O W ∗ atTurn d i q X o₀ b (t + 1)) := by
  unfold slot runs
  simp only [wp_bind]
  unfold atTurn
  rw [outAwait, show inAwait d i q X b t = iprop(inFlight d i q X b (num i b t) ∗ xRest d q (num i b t) X) from if_pos ht]
  iintro ⟨HR, Hi, Ho, Hb⟩
  iapply (wp_clear d i X o₀ b O W ht.le c hc o₁ h₁) $$ [HR Ho Hb]
  · isplitl [HR]; · iexact HR
    isplitl [Ho]; · iexact Ho
    iexact Hb
  iintro ⟨HR, Ho, Hb⟩
  icases Hi with ⟨Hfl, Hr⟩
  iapply (wp_waitIn d i q X b (num i b t) O W o₂ h₂) $$ [HR Hfl Hr]
  · isplitl [HR]; · iexact HR
    isplitl [Hfl]; · iexact Hfl
    iexact Hr
  iintro %f %hf ⟨HR, Hin, Hsi, Hx⟩
  unfold outIdle
  icases Ho with ⟨⟨%g₀, Hout⟩, Hso⟩
  iapply (wp_pick d i b 0 0#32 rfl p₁ h₃ e₁ f g₀) $$ [Hin Hout]
  · isplitl [Hin]; · iexact Hin
    iexact Hout
  iintro %g₁ %hg₁ ⟨Hin, Hout⟩
  iapply (wp_pick d i b 1 1#32 rfl p₂ h₄ e₂ f g₁) $$ [Hin Hout]
  · isplitl [Hin]; · iexact Hin
    iexact Hout
  iintro %g₂ %hg₂ ⟨Hin, Hout⟩
  have h0 : PickedTo d i b f g₂ 0 512 := fun y hy hk => (hg₂.2 y (by rw [hy]; decide)).trans (hg₁.1 y hy hk)
  have h1 : PickedTo d i b f g₂ 1 512 := hg₂.1
  ihave Hb := (Entails.of_eq (blocks_take d i X o₀ b ht)) $$ Hb
  icases Hb with ⟨Hn, Hb⟩
  iapply (wp_startOut d i X b (num i b t) o₃ h₅ e₃ f g₂ hf h0 h1 o₀) $$ [Hout Hso Hn]
  · isplitl [Hout]; · iexact Hout
    isplitl [Hso]; · iexact Hso
    iexact Hn
  iintro Hfo
  iapply (wp_next d i q X b (t := t + 1) c' hc' o₄ h₆ e₄) $$ [Hin Hsi Hx]
  · unfold inIdle
    isplitl [Hin]; · iexists f; iexact Hin
    isplitl [Hsi]; · iexact Hsi
    iexact Hx
  iintro Hi
  isplitl [HR]; · iexact HR
  isplitl [Hi]; · iexact Hi
  isplitl [Hfo]; · iexact Hfo
  iexact Hb

end Cert.KernelIdeal.Dec
-- ==== Proof.Trip.lean ====
module

public import proofs.«01_k».proof.Proof.Ops

/-!
# A printed trip is the eight slots' turns

The kernel's text is cut into parts that hand words on to one another. No word they hand on is read
by a memory operation but the lanes' multiples of eight, so a trip is the plain sequence of its turns.
-/

@[expose] public section

set_option synthInstance.maxSize 4096

noncomputable section

namespace Cert.KernelIdeal.Dec

open Idealize.ShloMosaic Idealize.SL.Sem Cert.KernelIdeal Cert.KernelIdeal.Gen

variable {F : FTy → Type} [FloatOps F]
variable (i : grid0.Coords) (x : XRef) (o : ORef) (inb : InRef) (outb : OutRef) (insem outsem : DmaSems sig S8)

/-- Both branches of a printed condition go on to the same rest: a guarded step, then the rest. -/
theorem guarded_of_dite {α : Type} {c : BitVec 1} (p : c = 1#1 → TaskProg F i PUnit) (r : TaskProg F i α) :
    (dite (c = 1#1) (fun h => p h >>= fun _ => r) (fun _ => r)) = guarded i c p >>= fun _ => r := by
  unfold guarded; split <;> rfl

variable (hx : x.IsWhole) (ho : o.IsWhole) (hi : inb.IsWhole) (hob : outb.IsWhole)

set_option maxRecDepth 65536 in
set_option maxHeartbeats 4000000 in
/-- A printed trip is the eight slots' turns. -/
theorem trip_eq (v2 v : _) (a b c) (t : Fin k0_t1_loop.trips) (u : Unit) :
    k0_t1_body (F := F) i x hx o ho inb hi outb hob insem outsem v2 v a b c t u = each i (turns i x o inb outb insem outsem v t) := by
  simp only [k0_t1_body, k0_part48, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47,
    bind_assoc, pure_bind, guarded_of_dite]
  simp only [each, turns, slot, bind_assoc, bind_pure_unit, Matrix.cons_val]
  rfl

end Cert.KernelIdeal.Dec
-- ==== Proof.Flat.lean ====
module

public import proofs.«01_k».proof.Proof.Trip

/-!
# The printed task is the sequence of its steps

The kernel's text is cut into parts that hand words on to one another. No word they hand on is read
by a memory operation but the lanes' multiples of eight, so the task is the plain sequence `task`.
-/

@[expose] public section

set_option synthInstance.maxSize 4096

noncomputable section

namespace Cert.KernelIdeal.Dec

open Idealize.ShloMosaic Idealize.SL.Sem Cert.KernelIdeal Cert.KernelIdeal.Gen

variable {F : FTy → Type} [FloatOps F]
variable (i : grid0.Coords) (x : XRef) (o : ORef) (inb : InRef) (outb : OutRef) (insem outsem : DmaSems sig S8)

variable (hx : x.IsWhole) (ho : o.IsWhole) (hi : inb.IsWhole) (hob : outb.IsWhole)

/-- The trips of the printed loop are the slots' turns. -/
theorem trips_eq (v2 v : _) (a b c) :
    k0_t1_body (F := F) i x hx o ho inb hi outb hob insem outsem v2 v a b c = fun t _ => each i (turns i x o inb outb insem outsem v t) :=
  funext fun t => funext fun u => trip_eq i x o inb outb insem outsem hx ho hi hob v2 v a b c t u

set_option maxRecDepth 65536 in
set_option maxHeartbeats 400000 in
/-- The printed task is `task`. -/
theorem cc0_k_eq : cc0_k (F := F) i x hx o ho inb hi outb hob insem outsem = task i x o inb outb insem outsem := by
  rw [cc0_k_eq_skeleton]
  unfold cc0_k_skel
  simp only [k0_part49_eq_skeleton, k0_part49_skel, k0_part50, k0_part51, k0_part52, k0_part53, k0_part54, k0_part55, k0_part56,
    k0_part57_eq_skeleton, k0_part57_skel, k0_part58, k0_part59, k0_part60, k0_part61, k0_part62, k0_part63, k0_part64, k0_part65,
    bind_assoc, pure_bind, trips_eq]
  simp only [task, each, starts, finishes, bind_assoc, bind_pure_unit, Matrix.cons_val]
  rfl

end Cert.KernelIdeal.Dec
-- ==== Proof.Task.lean ====
module

public import proofs.«01_k».proof.Proof.Slots
public import proofs.«01_k».proof.Proof.Flat

/-!
# The whole task of one vector subcore
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-- Where a trip of the inner loops stores, in the first row and in the second. -/
abbrev rowOff₀ : Fin 8 → Fin k0_t2_loop.trips → Fin 3 → ℕ := ![k0_off11, k0_off17, k0_off23, k0_off29, k0_off35, k0_off41, k0_off47, k0_off53]
abbrev rowOff₁ : Fin 8 → Fin k0_t2_loop.trips → Fin 3 → ℕ := ![k0_off12, k0_off18, k0_off24, k0_off30, k0_off36, k0_off42, k0_off48, k0_off54]

theorem rowOff₀_eq : ∀ b j, rowOff₀ b j = ![b.val, 0, 16 * j.val] := by decide +kernel
theorem rowOff₁_eq : ∀ b j, rowOff₁ b j = ![b.val, 1, 16 * j.val] := by decide +kernel

variable {F : FTy → Type} [FloatOps F]
variable (d : Dev nD) (i : grid0.Coords)

section Each

variable {R : Res F} {A B : Fin 8 → Res F} {p : Fin 8 → TaskProg F i PUnit}

/-- The slots' resources, those before slot `k` through with their step. -/
def through (A B : Fin 8 → Res F) (k : ℕ) : Res F := bigSep Finset.univ fun b : Fin 8 => if b.val < k then B b else A b

omit [FloatOps F] in
theorem through_split (A B : Fin 8 → Res F) (b : Fin 8) {k : ℕ} (hk : k = b.val ∨ k = b.val + 1) :
    through A B k = iprop((if b.val < k then B b else A b) ∗ bigSep (Finset.univ.erase b) fun b' : Fin 8 => if b'.val < b.val then B b' else A b') := by
  unfold through
  rw [SparseCore.bigSep_erase' (Finset.mem_univ b)]
  congr 1
  refine bigSep_congr fun s hs => ?_
  have hne : s.val ≠ b.val := fun h => (Finset.mem_erase.mp hs).1 (Fin.ext h)
  simp only [show (s.val < k) = (s.val < b.val) from propext ⟨fun h => by omega, fun h => by omega⟩]

/-- One slot's step moves it from before to after. -/
theorem wp_through (h : ∀ b, iprop(R ∗ A b) ⊢ runs d i (p b) fun _ => iprop(R ∗ B b)) (b : Fin 8) :
    iprop(R ∗ through A B b.val) ⊢ runs d i (p b) fun _ => iprop(R ∗ through A B (b.val + 1)) := by
  rw [through_split A B b (.inl rfl), through_split A B b (.inr rfl), if_neg (lt_irrefl _), if_pos (Nat.lt_succ_self _)]
  iintro ⟨HR, Ha, Hs⟩
  iapply (wp_wand _ _ _) $$ [HR Ha]
  · iapply (h b)
    isplitl [HR]; · iexact HR
    iexact Ha
  iintro %_ ⟨HR, Hb⟩
  isplitl [HR]; · iexact HR
  isplitl [Hb]; · iexact Hb
  iexact Hs

/-- A step proved at every slot is taken by the eight slots in turn. -/
theorem wp_each (h : ∀ b, iprop(R ∗ A b) ⊢ runs d i (p b) fun _ => iprop(R ∗ B b)) :
    iprop(R ∗ bigSep Finset.univ A) ⊢ runs d i (each i p) fun _ => iprop(R ∗ bigSep Finset.univ B) := by
  have s := wp_through d i h
  rw [show bigSep Finset.univ A = through A B 0 from bigSep_congr fun b _ => (if_neg (Nat.not_lt_zero _)).symm,
    show bigSep Finset.univ B = through A B 8 from bigSep_congr fun b _ => (if_pos b.isLt).symm]
  unfold each runs
  simp only [wp_bind]
  refine (s 0).trans (wp_mono _ _ _ fun _ => ?_)
  refine (s 1).trans (wp_mono _ _ _ fun _ => ?_)
  refine (s 2).trans (wp_mono _ _ _ fun _ => ?_)
  refine (s 3).trans (wp_mono _ _ _ fun _ => ?_)
  refine (s 4).trans (wp_mono _ _ _ fun _ => ?_)
  refine (s 5).trans (wp_mono _ _ _ fun _ => ?_)
  exact (s 6).trans (wp_mono _ _ _ fun _ => s 7)

end Each

variable (q : PosShare TreeShare) (X : Buf (Elt F) (xLoc d)) (o₀ : Buf (Elt F) (oLoc d)) (b : Fin 8)
variable (O : CellTallies nD τ sig (HIx 1)) (W : Waits sig (HIx 1))

theorem wp_starts :
    iprop(mayWait d i O W ∗ atStart d i q X o₀ b)
      ⊢ runs d i (starts i xV inV cc0_scratch2 b) fun _ => iprop(mayWait d i O W ∗ atTurn d i q X o₀ b 0) := by
  have key : ∀ (off : Fin 4 → ℕ) (h : InbX off) (_ : off = xOff (num i b 0)),
      iprop(mayWait d i O W ∗ atStart d i q X o₀ b)
        ⊢ runs d i (startIn i xV inV cc0_scratch2 b off h) fun _ => iprop(mayWait d i O W ∗ atTurn d i q X o₀ b 0) := by
    intro off h e
    unfold atStart atTurn
    rw [outAwait]
    iintro ⟨HR, Hi, Ho, Hb⟩
    iapply (wp_next d i q X b (t := 0) 1#1 (by decide) off (fun _ => h) fun _ => e) $$ Hi
    iintro Hi
    isplitl [HR]; · iexact HR
    isplitl [Hi]; · iexact Hi
    isplitl [Ho]; · iexact Ho
    iexact Hb
  have e := firstOff_eq b i
  fin_cases b <;> exact key _ _ e

omit d in
/-- A trip's turns are one program at the eight slots' conditions and offsets. -/
theorem turns_form (t : Fin k0_t1_loop.trips) (b : Fin 8) :
    ∃ o₁ h₁ o₂ h₂ h₃ h₄ h₅ h₆, turns (F := F) i xV oV inV outV cc0_scratch2 cc0_scratch3 k0_pay19 t b
      = slot i xV oV inV outV cc0_scratch2 cc0_scratch3 k0_pay19 b (owed b t) (more b t) o₁ h₁ o₂ h₂ (rowOff₀ b) h₃ (rowOff₁ b) h₄
          (putOff b i t) h₅ (nextOff b i t) h₆ := by
  fin_cases b <;> dsimp only [turns, owed, more, rowOff₀, rowOff₁, putOff, nextOff, Fin.zero_eta, Fin.mk_one, Fin.reduceFinMk, Matrix.cons_val]
  all_goals exact ⟨_, _, _, _, _, _, _, _, rfl⟩

theorem wp_turns (t : Fin k0_t1_loop.trips) :
    iprop(mayWait d i O W ∗ atTurn d i q X o₀ b t.val)
      ⊢ runs d i (turns i xV oV inV outV cc0_scratch2 cc0_scratch3 k0_pay19 t b)
          fun _ => iprop(mayWait d i O W ∗ atTurn d i q X o₀ b (t.val + 1)) := by
  obtain ⟨o₁, h₁, o₂, h₂, h₃, h₄, h₅, h₆, e⟩ := turns_form (F := F) i t b
  rw [e]
  exact wp_slot d i q X o₀ b O W t.isLt _ _ (owed_iff b t) (more_iff b t) o₁ h₁ o₂ h₂ _ h₃ _ h₄ _ h₅ _ h₆
    (rowOff₀_eq b) (rowOff₁_eq b) (putOff_eq b i t) (nextOff_eq b i t)

theorem wp_finishes :
    iprop(mayWait d i O W ∗ atTurn d i q X o₀ b 16)
      ⊢ runs d i (finishes i oV outV cc0_scratch3 b) fun _ => iprop(mayWait d i O W ∗ atEnd d i q X o₀ b) := by
  have key : ∀ (off : Fin 4 → ℕ) (h : InbO off),
      iprop(mayWait d i O W ∗ atTurn d i q X o₀ b 16)
        ⊢ runs d i (waitOut i oV outV cc0_scratch3 b off h) fun _ => iprop(mayWait d i O W ∗ atEnd d i q X o₀ b) := by
    intro off h
    unfold atTurn atEnd
    rw [show inAwait d i q X b 16 = inIdle d i q X b from if_neg (lt_irrefl 16)]
    iintro ⟨HR, Hi, Ho⟩
    iapply (wp_clear d i X o₀ b O W (t := 16) le_rfl 1#1 (by decide) off fun _ => h) $$ [HR Ho]
    · isplitl [HR]; · iexact HR
      iexact Ho
    iintro ⟨HR, Ho⟩
    isplitl [HR]; · iexact HR
    isplitl [Hi]; · iexact Hi
    iexact Ho
  fin_cases b <;> exact key _ _

/-- The task takes its eight slots from their start to their end. -/
theorem wp_task (q : Fin 8 → PosShare TreeShare) :
    iprop(mayWait d i O W ∗ bigSep Finset.univ fun b => atStart d i (q b) X o₀ b)
      ⊢ runs d i (task i xV oV inV outV cc0_scratch2 cc0_scratch3)
          fun _ => iprop(mayWait d i O W ∗ bigSep Finset.univ fun b => atEnd d i (q b) X o₀ b) := by
  unfold task runs
  rw [wp_bind]
  refine (wp_each d i fun b => wp_starts d i (q b) X o₀ b O W).trans (wp_mono _ _ _ fun _ => ?_)
  have body : ∀ (t : Fin k0_t1_loop.trips) (_ : PUnit),
      iprop(mayWait d i O W ∗ bigSep Finset.univ fun b => atTurn d i (q b) X o₀ b t.val)
        ⊢ runs d i (each i (turns i xV oV inV outV cc0_scratch2 cc0_scratch3 k0_pay19 t))
            fun _ => iprop(mayWait d i O W ∗ bigSep Finset.univ fun b => atTurn d i (q b) X o₀ b (t.val + 1)) :=
    fun t _ => wp_each d i fun b => wp_turns d i (q b) X o₀ b O W t
  have last := wp_each d i fun b => wp_finishes d i (q b) X o₀ b O W
  have trips : k0_t1_loop.trips = 16 := by decide
  rw [← trips] at last
  iintro H
  iapply (Scf.wp_for_bind _ _ _ k0_t1_loop.lb k0_t1_loop.ub k0_t1_loop.st k0_t1_ok ⟨⟩ _
    (fun t _ => iprop(mayWait d i O W ∗ bigSep Finset.univ fun b => atTurn d i (q b) X o₀ b t)) body) $$ H
  iintro %_ H
  iapply last $$ H

end Cert.KernelIdeal.Dec
-- ==== Proof.Deal.lean ====
module

public import proofs.«01_k».proof.Proof.Task

/-!
# How memory is dealt to the vector subcores and to their slots
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The argument and the result -/

/-- The coordinates of a vector subcore. -/
def spot (c : Fin 2) (s : Fin 16) : grid0.Coords :=
  fun | 0 => c | 1 => s | ⟨_ + 2, h⟩ => absurd h (Nat.not_lt.2 (Nat.le_add_left _ _))

/-- The part of the argument's share a SparseCore, one of its vector subcores and one of that one's slots read with. -/
def shareC (c : Fin 2) : PosShare TreeShare := Transfers.dealOf fullShare Finset.univ c
def shareT (c : Fin 2) (s : Fin 16) : PosShare TreeShare := Transfers.dealOf (shareC c) Finset.univ s
def shareB (c : Fin 2) (s : Fin 16) (b : Fin 8) : PosShare TreeShare := Transfers.dealOf (shareT c s) Finset.univ b

/-- What vector subcore `s` of SparseCore `c` holds of the result at the contents `f`. -/
def oTile (d : Dev nD) (f : Buf (Elt F) (oLoc d)) (c : Fin 2) (s : Fin 16) : Res F :=
  bigSep Finset.univ fun b : Fin 8 => bigSep Finset.univ fun t : Fin 16 => oPts d (num (spot c s) b t) f

/-- What it holds of the argument and the result; and a SparseCore's vector subcores together. -/
def tile (d : Dev nD) (X : Buf (Elt F) (xLoc d)) (f : Buf (Elt F) (oLoc d)) (c : Fin 2) (s : Fin 16) : Res F :=
  iprop((xLoc d ↦{shareT c s} X) ∗ oTile d f c s)
def core (d : Dev nD) (X : Buf (Elt F) (xLoc d)) (f : Buf (Elt F) (oLoc d)) (c : Fin 2) : Res F :=
  bigSep Finset.univ fun s : Fin 16 => tile d X f c s

abbrev Part : Type := Fin 2 × Fin 16 × Fin 8 × Fin 16
def part (p : Part) : Fin 4096 := num (spot p.1 p.2.1) p.2.2.1 p.2.2.2

theorem part_val (p : Part) : (part p).val = 128 * (2 * p.2.1.val + p.1.val) + 8 * p.2.2.2.val + p.2.2.1.val := by
  obtain ⟨c, s, b, t⟩ := p
  have := c.isLt; have := s.isLt; have := b.isLt; have := t.isLt
  have e : (part (c, s, b, t)).val = (128 * (2 * s.val + c.val) + 8 * t.val + b.val) % 4096 := rfl
  rw [e, Nat.mod_eq_of_lt (by omega)]

theorem part_injective : Function.Injective part := by
  intro p p' e
  have e' := congrArg Fin.val e
  rw [part_val, part_val] at e'
  obtain ⟨c, s, b, t⟩ := p
  obtain ⟨c', s', b', t'⟩ := p'
  have := c.isLt; have := s.isLt; have := b.isLt; have := t.isLt
  have := c'.isLt; have := s'.isLt; have := b'.isLt; have := t'.isLt
  simp only at e'
  simp only [Prod.mk.injEq, Fin.ext_iff]
  omega

theorem parts_disjoint : ∀ p ∈ (Finset.univ : Finset Part), ∀ p' ∈ (Finset.univ : Finset Part), p ≠ p' → Disjoint (oSet (part p)) (oSet (part p')) := by
  intro p _ p' _ hne
  refine Finset.disjoint_left.mpr fun y h h' => hne (part_injective (Fin.ext ?_))
  exact ((mem_oSet _ y).mp h).trans ((mem_oSet _ y).mp h').symm

theorem parts_cover : (Finset.univ : Finset Part).biUnion (fun p => oSet (part p)) = Finset.univ := by
  ext y
  simp only [Finset.mem_biUnion, Finset.mem_univ, iff_true, true_and]
  have h0 : (y 0).val < 16 := (y 0).isLt
  have h1 : (y 1).val < 4 := (y 1).isLt
  have h3 : (y 3).val < 32768 := (y 3).isLt
  obtain ⟨n, hn⟩ : ∃ n, n = 256 * (y 0).val + 64 * (y 1).val + (y 3).val / 512 := ⟨_, rfl⟩
  refine ⟨(⟨n / 128 % 2, by omega⟩, ⟨n / 256, by omega⟩, ⟨n % 8, by omega⟩, ⟨n / 8 % 16, by omega⟩), ?_⟩
  rw [mem_oSet, part_val]
  simp only
  omega

theorem oWhole_eq (d : Dev nD) (f : Buf (Elt F) (oLoc d)) :
    (oLoc d ↦{fullShare} f : Res F) = bigSep Finset.univ fun c : Fin 2 => bigSep Finset.univ fun s : Fin 16 => oTile d f c s := by
  have h := pointsTo_biUnion (ℓ := oLoc d) (q := fullShare) (f := f) (Ix := HIx 1) (Val := Elt F) (Name := ℕ) (U := UU) (Lvl := ℕ)
    (Finset.univ : Finset Part) (fun p => oSet (part p)) parts_disjoint
  rw [parts_cover] at h
  refine h.trans ?_
  rw [bigSep_univ_prod]
  refine bigSep_congr fun c _ => ?_
  rw [bigSep_univ_prod]
  refine bigSep_congr fun s _ => ?_
  rw [bigSep_univ_prod]
  rfl

theorem xWhole_eq (d : Dev nD) (X : Buf (Elt F) (xLoc d)) :
    (xLoc d ↦{fullShare} X : Res F) = bigSep Finset.univ fun c : Fin 2 => bigSep Finset.univ fun s : Fin 16 => xLoc d ↦{shareT c s} X :=
  (Transfers.pointsTo_deal Finset.univ Finset.univ_nonempty _).trans
    (bigSep_congr fun c _ => Transfers.pointsTo_deal Finset.univ Finset.univ_nonempty _)

theorem cores_eq (d : Dev nD) (X : Buf (Elt F) (xLoc d)) (f : Buf (Elt F) (oLoc d)) :
    (bigSep Finset.univ fun c : Fin 2 => core d X f c) = iprop((xLoc d ↦{fullShare} X) ∗ oLoc d ↦{fullShare} f) := by
  unfold core tile
  rw [xWhole_eq, oWhole_eq, ← bigSep_sep']
  exact bigSep_congr fun c _ => bigSep_sep' _ _ _

/-! ## The scratch of one vector subcore -/

variable (d : Dev nD) (i : grid0.Coords)

theorem inSets_disjoint : ∀ b ∈ (Finset.univ : Finset (Fin 8)), ∀ b' ∈ (Finset.univ : Finset (Fin 8)), b ≠ b' → Disjoint (inSet b) (inSet b') :=
  fun b _ b' _ hne => Finset.disjoint_left.mpr fun y h h' => hne (Fin.ext (((mem_inSet b y).mp h).symm.trans ((mem_inSet b' y).mp h')))
theorem inSets_cover : (Finset.univ : Finset (Fin 8)).biUnion inSet = Finset.univ :=
  Finset.eq_univ_of_forall fun y => Finset.mem_biUnion.mpr ⟨y 0, Finset.mem_univ _, (mem_inSet _ y).mpr rfl⟩
theorem outSets_disjoint : ∀ b ∈ (Finset.univ : Finset (Fin 8)), ∀ b' ∈ (Finset.univ : Finset (Fin 8)), b ≠ b' → Disjoint (outSet b) (outSet b') :=
  fun b _ b' _ hne => Finset.disjoint_left.mpr fun y h h' => hne (Fin.ext (((mem_outSet b y).mp h).symm.trans ((mem_outSet b' y).mp h')))
theorem outSets_cover : (Finset.univ : Finset (Fin 8)).biUnion outSet = Finset.univ :=
  Finset.eq_univ_of_forall fun y => Finset.mem_biUnion.mpr ⟨y 0, Finset.mem_univ _, (mem_outSet _ y).mpr rfl⟩

/-- A buffer at some contents is each of its pieces at some. -/
theorem pieces_eq (ℓ : Loc nD τ sig) (A : Fin 8 → Finset (Idx ℓ))
    (hd : ∀ b ∈ (Finset.univ : Finset (Fin 8)), ∀ b' ∈ (Finset.univ : Finset (Fin 8)), b ≠ b' → Disjoint (A b) (A b'))
    (hc : (Finset.univ : Finset (Fin 8)).biUnion A = Finset.univ) :
    (iprop(∃ f, ℓ ↦{fullShare} f) : Res F) = bigSep Finset.univ fun b : Fin 8 => iprop(∃ f, ℓ ↦[A b]{fullShare} f) := by
  refine equiv_iff.mp ⟨?_, ?_⟩
  · show (iprop(∃ f, ℓ ↦{fullShare} f) : Res F) ⊢ bigSep Finset.univ fun b : Fin 8 => iprop(∃ f, ℓ ↦[A b]{fullShare} f)
    have key (f : Buf (Elt F) ℓ) : (ℓ ↦{fullShare} f : Res F) ⊢ bigSep Finset.univ fun b : Fin 8 => iprop(∃ f, ℓ ↦[A b]{fullShare} f) := by
      rw [← hc, pointsTo_biUnion _ A hd]
      exact bigSep_mono fun b _ =>
        show (ℓ ↦[A b]{fullShare} f : Res F) ⊢ iprop(∃ f, ℓ ↦[A b]{fullShare} f) by iintro H; iexists f; iexact H
    iintro ⟨%f, H⟩
    iapply (key f); iexact H
  · show (bigSep Finset.univ fun b : Fin 8 => iprop(∃ f, ℓ ↦[A b]{fullShare} f)) ⊢ (iprop(∃ f, ℓ ↦{fullShare} f) : Res F)
    refine (bigSep_exists_pi Finset.univ (fun b (f : Buf (Elt F) ℓ) => (ℓ ↦[A b]{fullShare} f : Res F))).trans ?_
    iintro ⟨%fs, H⟩
    ihave H' := (pointsTo_biUnion_join Finset.univ A fs (fs 0) hd) $$ H
    icases H' with ⟨%g, -, Hg⟩
    rw [hc]
    iexists g; iexact Hg

/-- The subcore's other buffers. -/
def otherBufs : Res F :=
  bigSep (((ownRefs (τ := τ) (.scVector (cV i) (jV i))).erase ((Proc.scVector (cV i) (jV i)).devRef cc0_scratch0)).erase
    ((Proc.scVector (cV i) (jV i)).devRef cc0_scratch1)) fun b => iprop(∃ f, ((d, b) : Loc nD τ sig) ↦{fullShare} f)

theorem ownBufs_eq :
    (ownBufs (thr d i) : Res F) = iprop((bigSep Finset.univ fun b : Fin 8 => iprop(∃ f, inPts d i b f))
      ∗ (bigSep Finset.univ fun b : Fin 8 => iprop(∃ f, outPts d i b f)) ∗ otherBufs d i) := by
  rw [← pieces_eq (inLoc d i) inSet inSets_disjoint inSets_cover, ← pieces_eq (outLoc d i) outSet outSets_disjoint outSets_cover]
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]
  rfl

/-- The slots' semaphores. -/
def inCell (b : Fin 8) : GSem nD τ sig := (thr d i, .dma (inSem b))
def outCell (b : Fin 8) : GSem nD τ sig := (thr d i, .dma (outSem b))

theorem inSem_injective : ∀ b b' : Fin 8, (SemLoc.dma (inSem b) : SemLoc sig) = .dma (inSem b') → b = b' := by decide
theorem outSem_injective : ∀ b b' : Fin 8, (SemLoc.dma (outSem b) : SemLoc sig) = .dma (outSem b') → b = b' := by decide
theorem inSem_ne_outSem : ∀ b b' : Fin 8, (SemLoc.dma (inSem b) : SemLoc sig) ≠ .dma (outSem b') := by decide
theorem inSem_scoped : ∀ b : Fin 8, (SemLoc.dma (inSem b) : SemLoc sig).isScoped .scVector = true := by decide
theorem outSem_scoped : ∀ b : Fin 8, (SemLoc.dma (outSem b) : SemLoc sig).isScoped .scVector = true := by decide

def inCells : Finset (GSem nD τ sig) := Finset.univ.image (inCell d i)
def outCells : Finset (GSem nD τ sig) := Finset.univ.image (outCell d i)

def otherSems : Res F := bigSep ((ownCells (thr d i) \ inCells d i) \ outCells d i) fun g => semVal g 0

theorem ownSems0_eq :
    (ownSems0 (thr d i) : Res F) = iprop((bigSep Finset.univ fun b : Fin 8 => semVal (inCell d i b) 0)
      ∗ (bigSep Finset.univ fun b : Fin 8 => semVal (outCell d i b) 0) ∗ otherSems d i) := by
  have h1 : inCells d i ⊆ ownCells (thr d i) := by
    intro g hg
    obtain ⟨b, -, rfl⟩ := Finset.mem_image.mp hg
    exact mem_ownCells.mpr ⟨rfl, inSem_scoped b⟩
  have h2 : outCells d i ⊆ ownCells (thr d i) \ inCells d i := by
    intro g hg
    obtain ⟨b, -, rfl⟩ := Finset.mem_image.mp hg
    refine Finset.mem_sdiff.mpr ⟨mem_ownCells.mpr ⟨rfl, outSem_scoped b⟩, fun hg' => ?_⟩
    obtain ⟨b', -, e⟩ := Finset.mem_image.mp hg'
    exact inSem_ne_outSem b' b (Prod.mk.inj e).2
  unfold SparseCore.Cfg.ownSems0
  rw [SparseCore.bigSep_sdiff_split' h1, SparseCore.bigSep_sdiff_split' h2]
  unfold inCells outCells
  rw [SparseCore.bigSep_image_of_injOn (f := inCell d i) (fun b _ b' _ e => inSem_injective b b' (Prod.mk.inj e).2),
    SparseCore.bigSep_image_of_injOn (f := outCell d i) (fun b _ b' _ e => outSem_injective b b' (Prod.mk.inj e).2)]
  rfl

/-! ## The slots of one vector subcore -/

variable (X : Buf (Elt F) (xLoc d)) (o₀ : Buf (Elt F) (oLoc d))

theorem blocks_none (b : Fin 8) : blocks d i X o₀ b 0 0 = bigSep Finset.univ fun t : Fin 16 => oPts d (num i b t) o₀ :=
  bigSep_congr fun s _ => (if_neg (Nat.not_lt_zero _)).trans (if_neg (Nat.not_lt_zero _))
theorem blocks_all (b : Fin 8) : blocks d i X o₀ b 16 16 = bigSep Finset.univ fun t : Fin 16 => oPts d (num i b t) (dec d X) :=
  bigSep_congr fun s _ => if_pos s.isLt

/-- A vector subcore's slots with nothing on its way: what it holds of its scratch, its semaphores, the argument and the result. -/
theorem slots_eq (q : Fin 8 → PosShare TreeShare) (Ψ : Fin 8 → Res F) :
    (bigSep Finset.univ fun b : Fin 8 => iprop(inIdle d i (q b) X b ∗ outIdle d i b ∗ Ψ b))
      = iprop(((bigSep Finset.univ fun b : Fin 8 => iprop(∃ f, inPts d i b f)) ∗ (bigSep Finset.univ fun b : Fin 8 => semVal (inCell d i b) 0)
            ∗ bigSep Finset.univ fun b : Fin 8 => xPts d (q b) X)
          ∗ ((bigSep Finset.univ fun b : Fin 8 => iprop(∃ f, outPts d i b f)) ∗ bigSep Finset.univ fun b : Fin 8 => semVal (outCell d i b) 0)
          ∗ bigSep Finset.univ Ψ) := by
  unfold inIdle outIdle
  rw [bigSep_sep', bigSep_sep', bigSep_sep', bigSep_sep', bigSep_sep']
  rfl

end Cert.KernelIdeal.Dec
-- ==== Proof.Launch.lean ====
module

public import proofs.«01_k».proof.Proof.Deal
public import proofs.«01_k».proof.Proof.Flat

/-!
# The launch

The one call hands every vector subcore its blocks of the result and a share of the argument, and
takes back the blocks written.
-/

@[expose] public section

noncomputable section

namespace Cert.KernelIdeal.Dec

open Cert.KernelIdeal Cert.KernelIdeal.Gen
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

theorem nCore_zero : (K (F := F)).nCore 0 = 2 := rfl
theorem nSub_zero : (K (F := F)).nSub 0 = 16 := rfl

/-- What a vector subcore and a SparseCore are handed, and what they bring back. -/
abbrev tileIn (d : Dev nD) (c : Fin 2) (s : Fin 16) : Res F := tile d (m (xLoc d)) (m (oLoc d)) c s
abbrev tileOut (d : Dev nD) (c : Fin 2) (s : Fin 16) : Res F := tile d (m (xLoc d)) (dec d (m (xLoc d))) c s
abbrev coreIn (d : Dev nD) (c : Fin 2) : Res F := core d (m (xLoc d)) (m (oLoc d)) c
abbrev coreOut (d : Dev nD) (c : Fin 2) : Res F := core d (m (xLoc d)) (dec d (m (xLoc d))) c

def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c i => match q with | 0 => tileIn m d (Fin.cast nCore_zero c) (Fin.cast nSub_zero i)
  td := fun q d c i => match q with | 0 => tileOut m d (Fin.cast nCore_zero c) (Fin.cast nSub_zero i)
  x := fun _ _ => iprop(emp)

theorem P_st (d : Dev nD) (c : Fin ((K (F := F)).nCore 0)) : (P m).st 0 d c = coreIn m d (Fin.cast nCore_zero c) := by
  unfold P; dsimp only
theorem P_dn (d : Dev nD) (c : Fin ((K (F := F)).nCore 0)) : (P m).dn 0 d c = coreOut m d (Fin.cast nCore_zero c) := by
  unfold P; dsimp only
theorem P_go (d : Dev nD) (c : Fin ((K (F := F)).nCore 0)) (i : Fin ((K (F := F)).nSub 0)) :
    (P m).go 0 d c i = tileIn m d (Fin.cast nCore_zero c) (Fin.cast nSub_zero i) := by
  unfold P; dsimp only
theorem P_td (d : Dev nD) (c : Fin ((K (F := F)).nCore 0)) (i : Fin ((K (F := F)).nSub 0)) :
    (P m).td 0 d c i = tileOut m d (Fin.cast nCore_zero c) (Fin.cast nSub_zero i) := by
  unfold P; dsimp only

instance tile_storable (d : Dev nD) (X : Buf (Elt F) (xLoc d)) (f : Buf (Elt F) (oLoc d)) (c : Fin 2) (s : Fin 16) :
    BI.Storable (upEmb : UEmb _ (MT nD τ sig (HIx 1) (Elt F) ℕ UU ℕ)) (tile d X f c s) := by
  unfold tile oTile; infer_instance
instance core_storable (d : Dev nD) (X : Buf (Elt F) (xLoc d)) (f : Buf (Elt F) (oLoc d)) (c : Fin 2) :
    BI.Storable (upEmb : UEmb _ (MT nD τ sig (HIx 1) (Elt F) ℕ UU ℕ)) (core d X f c) := by
  unfold core; infer_instance

instance P_storable : (P (F := F) m).IsStorable where
  st q d c := match q with | 0 => core_storable d _ _ (Fin.cast nCore_zero c)
  dn q d c := match q with | 0 => core_storable d _ _ (Fin.cast nCore_zero c)
  go q d c i := match q with | 0 => tile_storable d _ _ (Fin.cast nCore_zero c) (Fin.cast nSub_zero i)
  td q d c i := match q with | 0 => tile_storable d _ _ (Fin.cast nCore_zero c) (Fin.cast nSub_zero i)

/-! ## A vector subcore's task -/

section Task

variable (d : Dev nD) (c : Fin 2) (s : Fin 16) (X : Buf (Elt F) (xLoc d)) (o₀ : Buf (Elt F) (oLoc d))

/-- What the task is handed and what its subcore owns are its slots before their first turn, and what is not theirs; -/
theorem starts_intro :
    iprop(tile d X o₀ c s ∗ ownBufs (thr d (spot c s)) ∗ ownSems0 (thr d (spot c s)))
      ⊢ iprop((bigSep Finset.univ fun b : Fin 8 => atStart d (spot c s) (shareB c s b) X o₀ b) ∗ otherBufs d (spot c s) ∗ otherSems d (spot c s)) := by
  unfold atStart tile oTile
  rw [slots_eq d (spot c s) X (shareB c s) (fun b => blocks d (spot c s) X o₀ b 0 0), ownBufs_eq, ownSems0_eq,
    Transfers.pointsTo_deal (Finset.univ : Finset (Fin 8)) Finset.univ_nonempty (shareT c s)]
  simp only [blocks_none]
  iintro ⟨⟨Hx, Ho⟩, ⟨Hin, Hout, Hb⟩, Hsi, Hso, Hs⟩
  isplitr [Hb Hs]
  · isplitl [Hin Hsi Hx]
    · isplitl [Hin]; · iexact Hin
      isplitl [Hsi]; · iexact Hsi
      iexact Hx
    isplitl [Hout Hso]
    · isplitl [Hout]; · iexact Hout
      iexact Hso
    iexact Ho
  isplitl [Hb]; · iexact Hb
  iexact Hs

/-- and its slots after their last turn are what it brings back. -/
theorem ends_elim :
    iprop((bigSep Finset.univ fun b : Fin 8 => atEnd d (spot c s) (shareB c s b) X o₀ b) ∗ otherBufs d (spot c s) ∗ otherSems d (spot c s))
      ⊢ iprop(tile d X (dec d X) c s ∗ ownBufs (thr d (spot c s)) ∗ ownSems0 (thr d (spot c s))) := by
  unfold atEnd tile oTile
  rw [slots_eq d (spot c s) X (shareB c s) (fun b => blocks d (spot c s) X o₀ b 16 16), ownBufs_eq, ownSems0_eq,
    Transfers.pointsTo_deal (Finset.univ : Finset (Fin 8)) Finset.univ_nonempty (shareT c s)]
  simp only [blocks_all]
  iintro ⟨⟨⟨Hin, Hsi, Hx⟩, ⟨Hout, Hso⟩, Ho⟩, Hb, Hs⟩
  isplitl [Hx Ho]
  · isplitl [Hx]; · iexact Hx
    iexact Ho
  isplitl [Hin Hout Hb]
  · isplitl [Hin]; · iexact Hin
    isplitl [Hout]; · iexact Hout
    iexact Hb
  isplitl [Hsi]; · iexact Hsi
  isplitl [Hso]; · iexact Hso
  iexact Hs

/-- The task, from what it is handed to what it brings back. -/
theorem tile_body (hF : (K (F := F)).Facts) (O : CellTallies nD τ sig (HIx 1)) (W : Waits sig (HIx 1)) (hO : ∀ g, O g none = 0) :
    iprop(levAts (K (F := F)).L (K (F := F)).lev ∗ emp ∗ tile d X o₀ c s
        ∗ scopedBufs (thr d (spot c s)) ∗ scopedSems0 (thr d (spot c s)) ∗ owes (thr d (spot c s)) O W)
      ⊢ runs d (spot c s) (cc0_k (spot c s) (Memref.whole main_arg0_scv) (Memref.isWhole_whole _) (Memref.whole main_v0_scv) (Memref.isWhole_whole _)
            (Memref.whole cc0_scratch0) (Memref.isWhole_whole _) (Memref.whole cc0_scratch1) (Memref.isWhole_whole _) cc0_scratch2 cc0_scratch3)
          fun _ => iprop(tile d X (dec d X) c s ∗ scopedBufs (thr d (spot c s)) ∗ scopedSems0 (thr d (spot c s))
            ∗ ∃ W', ⌜∀ p ∈ W', p ∈ W ∨ p.2 = none⌝ ∗ owes (thr d (spot c s)) O W') := by
  rw [cc0_k_eq, (K (F := F)).scopedBufs_V hF d (cV (spot c s)) (jV (spot c s)),
    SparseCore.Cfg.scopedSems0_V (Val := Elt F) d (cV (spot c s)) (jV (spot c s))]
  iintro ⟨#Hlv, -, Ht, Hb, Hs, HO⟩
  ihave H := (starts_intro d c s X o₀) $$ [Ht Hb Hs]
  · isplitl [Ht]; · iexact Ht
    isplitl [Hb]; · iexact Hb
    iexact Hs
  icases H with ⟨Hst, Hrest⟩
  ihave Hw := (wp_task d (spot c s) X o₀ O W (shareB c s)) $$ [Hst HO]
  · isplitl [HO]
    · unfold mayWait
      isplitr
      · iapply ((K (F := F)).mayWaits_none (thr := thr d (spot c s)) hO); iexact Hlv
      iexists W; isplitr
      · ipureintro; exact fun p hp => .inl hp
      iexact HO
    iexact Hst
  iapply (wp_wand _ _ _) $$ Hw
  iintro %r ⟨Hmw, Hend⟩
  ihave H := (ends_elim d c s X o₀) $$ [Hend Hrest]
  · isplitl [Hend]; · iexact Hend
    iexact Hrest
  icases H with ⟨Ht, Hb, Hs⟩
  isplitl [Ht]; · iexact Ht
  isplitl [Hb]; · iexact Hb
  isplitl [Hs]; · iexact Hs
  unfold mayWait
  icases Hmw with ⟨-, H⟩
  iexact H

end Task

/-! ## What the launch theorem asks -/

theorem defs₀_vector (c : Fin τ.nSC) (s : Fin τ.nSub) :
    defs₀ (F := F) (.scVector c s) 0 ()
      = SparseCore.onTile hcore0 hsub0 (fun c s => cc0_k (spot c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _) cc0_scratch2 cc0_scratch3) ⟨⟩ c s := rfl

theorem obl_post {thr : Thread nD τ} {A B C : Res F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (Fin.cast nCore_zero c) (Fin.cast nSub_zero i) (m (xLoc d)) (m (oLoc d)) hF O W hO).trans (wp_mono frame _ _ fun _ => obl_post)

theorem bigSep_tiles (Φ : Fin 16 → Res F) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → Res F) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (P m).st 0 d c ⊢ |={Set.univ}=> iprop(
      (bigSep Finset.univ fun i : Fin ((K (F := F)).nSub 0) => (P m).go 0 d c i)
      ∗ ((bigSep Finset.univ fun i : Fin ((K (F := F)).nSub 0) => (P m).td 0 d c i) -∗ (P m).dn 0 d c))
  simp only [P_st, P_dn, P_go, P_td]
  rw [bigSep_tiles (F := F) (fun i => tileIn m d (Fin.cast nCore_zero c) i), bigSep_tiles (F := F) (fun i => tileOut m d (Fin.cast nCore_zero c) i)]
  unfold coreIn coreOut core
  iintro H; imodintro
  isplitl [H]; · iexact H
  iintro H; iexact H

/-- The launch element: the launch's own counters, and no transfer in flight. -/
def u₀ : UU := (initOf (K (F := F)).hsCells (K (F := F)).hsToks, 1)

theorem hu₀ : (ownU (u₀ (F := F)) : Res F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  show (BI.own (EH (initOf (K (F := F)).hsCells (K (F := F)).hsToks)) : Res F)
    ⊢ |={Set.univ}=> iprop(BI.own (EH (initOf (K (F := F)).hsCells (K (F := F)).hsToks)) ∗ (bigSep Finset.univ fun _ : Dev nD => iprop(emp))
        ∗ bigSep Finset.univ fun _ : Thread nD τ => bigSep Finset.univ fun _ : Fin 1 => iprop(emp))
  simp only [show ∀ (I : Type) (s : Finset I), (bigSep s fun _ => iprop(emp)) = (iprop(emp) : Res F) from fun _ s => bigSep_emp_const s]
  iintro H; imodintro
  isplitl [H]; · iexact H
  isplitr <;> iempintro

/-! ## The TensorCore -/

theorem unscopedBufs_eq (d : Dev nD) (W : (b : Ref sig .tc) → Buf (Elt F) ((d.tc : Thread nD τ).loc b)) :
    (unscopedBufs d W : Res F) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c)
    = iprop((xLoc d ↦{fullShare} m (xLoc d)) ∗ oLoc d ↦{fullShare} m (oLoc d)) := by
  simp only [P_st]
  rw [bigSep_cores (F := F) (fun c => coreIn m d c), cores_eq]
theorem dn0_eq (d : Dev nD) : (bigSep Finset.univ fun c : Fin ((K (F := F)).nCore 0) => (P m).dn 0 d c)
    = iprop((xLoc d ↦{fullShare} m (xLoc d)) ∗ oLoc d ↦{fullShare} dec d (m (xLoc d))) := by
  simp only [P_dn]
  rw [bigSep_cores (F := F) (fun c => coreOut m d c), cores_eq]

/-- What the TensorCore ends with: the argument unchanged, the result every eighth word of it. -/
abbrev FIN (d : Dev nD) : Res F := iprop((xLoc d ↦{fullShare} m (xLoc d)) ∗ oLoc d ↦{fullShare} dec d (m (xLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

def fq (d : Dev nD) (s' : Phys nD τ sig (Elt F)) : Prop := s'.mem.mem (xLoc d) = m (xLoc d) ∧ s'.mem.mem (oLoc d) = dec d (m (xLoc d))

theorem hfin (d : Dev nD) (s' : Phys nD τ sig (Elt F)) : iprop(FIN m d ∗ SI s') ⊢ (⌜fq m d s'⌝ : Res F) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := dec d (m (xLoc d)))) $$ [HSI Ho]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ d : Dev nD, r.2.mem (xLoc d) = m (xLoc d) ∧ r.2.mem (oLoc d) = dec d (m (xLoc d))) ∧ r.2.sem = fun _ => 0

/-- The program ends with its argument unchanged, every eighth word of it in the result, and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Dec
-- ==== Proof.Taken.lean ====
module

public import proofs.«01_k».proof.Proof.Places
public import proofs.«01_k».proof.Proof.Gen.ReferenceIdeal
public import Idealize.ShloMosaic.Lib.ReduceAll

/-!
# What the reference computes

The reference takes positions `0, 8, 16, …` along the last axis. Every one is in range, so its
mask of positions out of range is nowhere set and its gather clamps nothing.
-/

@[expose] public section

noncomputable section

namespace Cert.ReferenceIdeal.Dec

open Cert.ReferenceIdeal Cert.ReferenceIdeal.Gen
open Idealize.ShloMosaic

variable {F : FTy → Type} [FloatOps F]

/-- The positions to take, -/
def position : IVec S32768 32 :=
  addi (muli (iotaInDim S32768 32 0) (broadcastInDim S32768 ![] bcast_S_S32768 (constantI S_ 32 8#32)))
    (broadcastInDim S32768 ![] bcast_S_S32768 (constantI S_ 32 0#32))
/-- the same with the negative ones counted from the end, -/
def wrapped : IVec S32768 32 :=
  select (cmpi .slt position (broadcastInDim S32768 ![] bcast_S_S32768 (constantI S_ 32 0#32)))
    (addi position (broadcastInDim S32768 ![] bcast_S_S32768 (constantI S_ 32 262144#32))) position
/-- as a column, -/
def column : IVec S32768x1 32 := broadcastInDim S32768x1 ![0] bcast_S32768_S32768x1_0 wrapped
/-- and which of them are in range. -/
def inRange : IVec S32768 1 :=
  Host.reduce IntOp.andi
    (andi (cmpi .sge column (broadcastInDim S32768x1 ![] bcast_S_S32768x1 (constantI S_ 32 0#32)))
      (cmpi .sle column (broadcastInDim S32768x1 ![0, 1] bcast_S1x1_S32768x1_0_1 (broadcastInDim S1x1 ![1] bcast_S1_S1x1_1 (constantI S1 32 262143#32)))))
    (constantI S_ 1 1#1) reducesTo_S32768x1_S32768_d1 h_S_

abbrev takes : GatherDims S16x4x2x262144 S32768x1 S16x4x2x32768 := gather_S16x4x2x262144_S32768x1_S16x4x2x32768_012_3_n_n_3_1_16421

/-- What the reference leaves in its result. -/
def taken (X : FVec F S16x4x2x262144 .f32) : FVec F S16x4x2x32768 .f32 :=
  select (broadcastInDim S16x4x2x32768 ![3] bcast_S32768_S16x4x2x32768_3 inRange) (Host.gather takes X column)
    (broadcastInDim S16x4x2x32768 ![] bcast_S_S16x4x2x32768 (constant S_ .f32 0x7FC00000#32))

theorem eight_times {k : ℕ} (hk : k < 32768) :
    IntOp.addi (IntOp.muli (BitVec.ofNat 32 k) 8#32) 0#32 = BitVec.ofNat 32 (8 * k) := by
  refine BitVec.eq_of_toNat_eq ?_
  simp only [IntOp.addi, IntOp.muli, BitVec.toNat_add, BitVec.toNat_mul, BitVec.toNat_ofNat]
  omega

theorem toInt_eight {k : ℕ} (hk : k < 32768) : (BitVec.ofNat 32 (8 * k)).toInt = 8 * (k : ℤ) := by
  rw [BitVec.toInt_eq_toNat_cond, BitVec.toNat_ofNat, Nat.mod_eq_of_lt (by omega), if_pos (by omega)]
  push_cast; rfl

theorem wrapped_apply (j : S32768.Idx) : wrapped j = BitVec.ofNat 32 (8 * (j 0).val) := by
  have hj : (j 0).val < 32768 := (j 0).isLt
  show Scalar.select (IntOp.cmpi .slt (IntOp.addi (IntOp.muli (BitVec.ofNat 32 (j 0).val) 8#32) 0#32) 0#32) _
    (IntOp.addi (IntOp.muli (BitVec.ofNat 32 (j 0).val) 8#32) 0#32) = _
  rw [eight_times hj]
  refine if_neg ?_
  have h := toInt_eight hj
  simp only [IntOp.cmpi, BitVec.slt_eq_decide, h]
  rw [decide_eq_false (by simp)]
  decide

theorem column_apply (j : S32768x1.Idx) : column j = BitVec.ofNat 32 (8 * (j 0).val) := wrapped_apply _

theorem inRange_apply (j : S32768.Idx) : inRange j = 1#1 := by
  unfold inRange
  refine Host.reduce_andi_one _ _ reducesTo_S32768x1_S32768_d1 h_S_ j (show constantI S_ 1 1#1 (Shape.Idx.first h_S_) = 1#1 from rfl) fun i => ?_
  have hi : (i 0).val < 32768 := (i 0).isLt
  show IntOp.andi (IntOp.cmpi .sge (column i) 0#32) (IntOp.cmpi .sle (column i) 262143#32) = 1#1
  have h := toInt_eight hi
  simp only [column_apply, IntOp.cmpi, BitVec.sle_eq_decide, h]
  rw [decide_eq_true (by simp), decide_eq_true (by simp; omega)]
  decide

/-- The reference's result is every eighth word of its argument. -/
theorem taken_apply (X : FVec F S16x4x2x262144 .f32) (y : S16x4x2x32768.Idx) : taken X y = X (Cert.KernelIdeal.Dec.wide y) := by
  have hm : broadcastInDim S16x4x2x32768 ![3] bcast_S32768_S16x4x2x32768_3 inRange y = 1 := inRange_apply _
  unfold taken select Scalar.select
  rw [if_pos hm]
  refine congrArg X ?_
  have h3 : (y 3).val < 32768 := (y 3).isLt
  funext a
  refine Fin.ext ?_
  rw [Cert.KernelIdeal.Dec.wide_val]
  show takes.start y column a + takes.batchCoord y a + takes.offCoord y a = _
  rw [GatherDims.batchCoord_eq_zero _ _ _ List.not_mem_nil]
  have low : ∀ a : Fin 4, a ≠ 3 → takes.start y column a = 0 := fun a ha => dif_neg (fun h => ha (List.mem_singleton.mp h))
  have kept : ∀ a : Fin 4, a ≠ 3 → a ∈ takes.sKept := fun a ha =>
    (GatherDims.mem_sKept _ _).mpr ⟨fun h => ha (List.mem_singleton.mp h), List.not_mem_nil⟩
  have cases (a : Fin 4) : a = 0 ∨ a = 1 ∨ a = 2 ∨ a = 3 := by revert a; decide
  rcases cases a with rfl | rfl | rfl | rfl
  · rw [low 0 (by decide)]; unfold GatherDims.offCoord; rw [dif_pos (kept 0 (by decide)), Nat.zero_add]; rfl
  · rw [low 1 (by decide)]; unfold GatherDims.offCoord; rw [dif_pos (kept 1 (by decide)), Nat.zero_add]; rfl
  · rw [low 2 (by decide)]; unfold GatherDims.offCoord; rw [dif_pos (kept 2 (by decide)), Nat.zero_add]; rfl
  · rw [GatherDims.offCoord_eq_zero _ _ _ (fun h => ((GatherDims.mem_sKept _ _).mp h).1 (List.mem_singleton.mpr rfl))]
    unfold GatherDims.start
    rw [dif_pos (show (3 : Fin 4) ∈ takes.startIndexMap from List.mem_singleton.mpr rfl), column_apply]
    have hs : (takes.siIdx y ⟨List.idxOf (3 : Fin 4) takes.startIndexMap, List.idxOf_lt_length_iff.2 (List.mem_singleton.mpr rfl)⟩ 0).val = (y 3).val := rfl
    rw [hs, toInt_eight h3]
    show min (8 * ((y 3).val : ℤ)).toNat (262144 - 1) + 0 + 0 = 8 * (y 3).val
    omega

end Cert.ReferenceIdeal.Dec
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Taken
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m ρ _ =>
  (θ_run Cert.KernelIdeal.defs _ _).mono (fun _ h => ⟨fun c => (h.1 c).1, h.2⟩) (Cert.KernelIdeal.Dec.run_main (F := Bits) m ρ)

/-- The same program's over extended reals. -/
theorem frame_kernelIdeal : Cert.quiescent_KernelIdeal := fun m ρ _ =>
  (θ_run Cert.KernelIdeal.defs _ _).mono (fun _ h => ⟨fun c => (h.1 c).1, h.2⟩) (Cert.KernelIdeal.Dec.run_main (F := Ideal) m ρ)

/-- The reference's, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote nothing. -/
theorem preserves : Cert.preserves_Kernel_KernelIdeal := trivial

/-- The reference ends with every eighth word of its argument in its result. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v5)
            = Cert.ReferenceIdeal.Dec.taken (F := Ideal) (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  Cert.ReferenceIdeal.Value.run (F := Ideal) m ρ

/-- Kernel and reference leave the same words. -/
theorem algebraic : Cert.algebraic_KernelIdeal_ReferenceIdeal := by
  intro m ρ m' ρ' _ hagree
  refine ⟨fun c => Cert.KernelIdeal.Dec.dec c (m (Cert.KernelIdeal.Dec.xLoc c)),
    (θ_run Cert.KernelIdeal.defs _ _).mono (fun _ h c => ⟨(h.1 c).2, (h.1 c).1⟩) (Cert.KernelIdeal.Dec.run_main (F := Ideal) m ρ), ?_⟩
  refine (θ_run Cert.ReferenceIdeal.defs _ _).mono (fun _ h c => ⟨(h c).1.trans ?_, (h c).2⟩) (reference_run m' ρ')
  rw [hagree c]
  exact funext fun y => Cert.ReferenceIdeal.Dec.taken_apply _ y

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
